-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_finite_labels_in_range [hPre_rows_finite_labels_in_range : Cert.Pre_rows_finite_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rows_finite_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_finite_labels_in_range [hPre_rows_finite_labels_in_range : Cert.Pre_rows_finite_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_finite_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_rows_finite_labels_in_range [hKernelIdeal : Cert.KernelIdeal.Facts] [hPre_rows_finite_labels_in_range : Cert.Pre_rows_finite_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_finite_labels_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_rows_finite_labels_in_range [hReferenceIdeal : Cert.ReferenceIdeal.Facts] [hPre_rows_finite_labels_in_range : Cert.Pre_rows_finite_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_finite_labels_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_rows_finite_labels_in_range [hKernelIdeal : Cert.KernelIdeal.Facts] [hReferenceIdeal : Cert.ReferenceIdeal.Facts] [hPre_rows_finite_labels_in_range : Cert.Pre_rows_finite_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_finite_labels_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_rows_finite_labels_in_range : Cert.Pre_rows_finite_labels_in_range.Facts),
    quiescent_Kernel (hKernel := hKernel)
    ∧ quiescent_KernelIdeal (hKernelIdeal := hKernelIdeal)
    ∧ quiescent_KernelIdeal_pre_rows_finite_labels_in_range (hKernelIdeal := hKernelIdeal) (hPre_rows_finite_labels_in_range := hPre_rows_finite_labels_in_range)
    ∧ quiescent_ReferenceIdeal (hReferenceIdeal := hReferenceIdeal)
    ∧ quiescent_ReferenceIdeal_pre_rows_finite_labels_in_range (hReferenceIdeal := hReferenceIdeal) (hPre_rows_finite_labels_in_range := hPre_rows_finite_labels_in_range)
    ∧ preserves_Kernel_KernelIdeal
    ∧ algebraic_KernelIdeal_ReferenceIdeal_pre_rows_finite_labels_in_range (hKernelIdeal := hKernelIdeal) (hReferenceIdeal := hReferenceIdeal) (hPre_rows_finite_labels_in_range := hPre_rows_finite_labels_in_range)
-- ==== Pre_rows_finite_labels_in_range.lean ====
abbrev S32x8732x81 : Shape := ⟨3, ![32, 8732, 81]⟩
abbrev S32x8732x4 : Shape := ⟨3, ![32, 8732, 4]⟩
abbrev S32x8732 : Shape := ⟨2, ![32, 8732]⟩
abbrev S_ : Shape := ⟨0, ![]⟩

class Facts : Prop where
  reducesTo_S32x8732x81_S32x8732_d2 : S32x8732x81.ReducesTo [2] S32x8732
  h_S_ : 0 < S_.numel
  bcast_S_S32x8732 : S_.BroadcastsInDim S32x8732 (![] : Fin 0 → Fin S32x8732.rank)

variable [Facts]

def fn {F : FTy → Type} [FloatOps F] (main_arg0 : FVec F S32x8732x81 .f32) (main_arg1 : FVec F S32x8732x4 .f32) (main_arg2 : IVec S32x8732 32) (main_arg3 : FVec F S32x8732x4 .f32) : IVec S32x8732 1 :=
  let main_cst : FVec F S_ .f32 := constant S_ .f32 0xFF800000#32
  let main_v0 : FVec F S32x8732 .f32 := (fun x v => Host.reduce FloatOps.maximumf x v reducesTo_S32x8732x81_S32x8732_d2 h_S_) main_arg0 main_cst
  let main_v1 : FVec F S32x8732 .f32 := Host.absf main_v0
  let main_cst_0 : FVec F S_ .f32 := constant S_ .f32 0x7F800000#32
  let main_v2 : FVec F S32x8732 .f32 := broadcastInDim S32x8732 ![] bcast_S_S32x8732 main_cst_0
  let main_v3 : IVec S32x8732 1 := cmpf .olt main_v1 main_v2
  let main_c : IVec S_ 32 := constantI S_ 32 0#32
  let main_v4 : IVec S32x8732 32 := broadcastInDim S32x8732 ![] bcast_S_S32x8732 main_c
  let main_v5 : IVec S32x8732 1 := cmpi .sge main_arg2 main_v4
  let main_c_1 : IVec S_ 32 := constantI S_ 32 81#32
  let main_v6 : IVec S32x8732 32 := broadcastInDim S32x8732 ![] bcast_S_S32x8732 main_c_1
  let main_v7 : IVec S32x8732 1 := cmpi .slt main_arg2 main_v6
  let main_v8 : IVec S32x8732 1 := andi main_v5 main_v7
  let main_v9 : IVec S32x8732 1 := andi main_v3 main_v8
  main_v9
-- ==== Kernel.lean ====
abbrev S32x8732x81 : Shape := ⟨3, ![32, 8732, 81]⟩
abbrev S32x8732x4 : Shape := ⟨3, ![32, 8732, 4]⟩
abbrev S32x8732 : Shape := ⟨2, ![32, 8732]⟩
abbrev S_ : Shape := ⟨0, ![]⟩
abbrev S32 : Shape := ⟨1, ![32]⟩
abbrev S32x1 : Shape := ⟨2, ![32, 1]⟩
abbrev S32x16 : Shape := ⟨2, ![32, 16]⟩
abbrev S279424x81 : Shape := ⟨2, ![279424, 81]⟩
abbrev S279424x4 : Shape := ⟨2, ![279424, 4]⟩
abbrev S279424x1 : Shape := ⟨2, ![279424, 1]⟩
abbrev S1x1 : Shape := ⟨2, ![1, 1]⟩
abbrev S2368x81 : Shape := ⟨2, ![2368, 81]⟩
abbrev S2368x4 : Shape := ⟨2, ![2368, 4]⟩
abbrev S2368x1 : Shape := ⟨2, ![2368, 1]⟩
abbrev S1 : Shape := ⟨1, ![1]⟩
abbrev S2368 : Shape := ⟨1, ![2368]⟩
abbrev S1x32x16 : Shape := ⟨3, ![1, 32, 16]⟩
abbrev S1x1x1 : Shape := ⟨3, ![1, 1, 1]⟩
abbrev S1x2368x1 : Shape := ⟨3, ![1, 2368, 1]⟩
abbrev S1x2368x4 : Shape := ⟨3, ![1, 2368, 4]⟩

abbrev nBuf : Space → Nat
  | .hbm => 29
  | .vmem => 11
  | .smem => 2
  | _ => 0

abbrev bufTy : (tb : Table) → Fin (tcTables nBuf tb) → BufTy
  | .hbm, ⟨0, _⟩ => ⟨S32x8732x81, .f32⟩
  | .hbm, ⟨1, _⟩ => ⟨S32x8732x4, .f32⟩
  | .hbm, ⟨2, _⟩ => ⟨S32x8732, .i32⟩
  | .hbm, ⟨3, _⟩ => ⟨S32x8732x4, .f32⟩
  | .hbm, ⟨4, _⟩ => ⟨S_, .i32⟩
  | .hbm, ⟨5, _⟩ => ⟨S32x8732, .i32⟩
  | .hbm, ⟨6, _⟩ => ⟨S32x8732, .i1⟩
  | .hbm, ⟨7, _⟩ => ⟨S32x8732, .i32⟩
  | .hbm, ⟨8, _⟩ => ⟨S_, .i32⟩
  | .hbm, ⟨9, _⟩ => ⟨S_, .i32⟩
  | .hbm, ⟨10, _⟩ => ⟨S32x8732, .i32⟩
  | .hbm, ⟨11, _⟩ => ⟨S32x8732, .i32⟩
  | .hbm, ⟨12, _⟩ => ⟨S_, .i32⟩
  | .hbm, ⟨13, _⟩ => ⟨S32x8732, .i32⟩
  | .hbm, ⟨14, _⟩ => ⟨S32x8732, .i1⟩
  | .hbm, ⟨15, _⟩ => ⟨S32x8732, .i32⟩
  | .hbm, ⟨16, _⟩ => ⟨S_, .i32⟩
  | .hbm, ⟨17, _⟩ => ⟨S32, .i32⟩
  | .hbm, ⟨18, _⟩ => ⟨S32x1, .i32⟩
  | .hbm, ⟨19, _⟩ => ⟨S_, .i32⟩
  | .hbm, ⟨20, _⟩ => ⟨S_, .i32⟩
  | .hbm, ⟨21, _⟩ => ⟨S32x16, .i32⟩
  | .hbm, ⟨22, _⟩ => ⟨S279424x81, .f32⟩
  | .hbm, ⟨23, _⟩ => ⟨S279424x4, .f32⟩
  | .hbm, ⟨24, _⟩ => ⟨S279424x4, .f32⟩
  | .hbm, ⟨25, _⟩ => ⟨S279424x1, .i32⟩
  | .hbm, ⟨26, _⟩ => ⟨S279424x1, .i32⟩
  | .hbm, ⟨27, _⟩ => ⟨S1x1, .f32⟩
  | .hbm, ⟨28, _⟩ => ⟨S_, .f32⟩
  | .local _ .vmem, ⟨0, _⟩ => ⟨S2368x81, .f32⟩
  | .local _ .vmem, ⟨1, _⟩ => ⟨S2368x81, .f32⟩
  | .local _ .vmem, ⟨2, _⟩ => ⟨S2368x4, .f32⟩
  | .local _ .vmem, ⟨3, _⟩ => ⟨S2368x4, .f32⟩
  | .local _ .vmem, ⟨4, _⟩ => ⟨S2368x4, .f32⟩
  | .local _ .vmem, ⟨5, _⟩ => ⟨S2368x4, .f32⟩
  | .local _ .vmem, ⟨6, _⟩ => ⟨S2368x1, .i32⟩
  | .local _ .vmem, ⟨7, _⟩ => ⟨S2368x1, .i32⟩
  | .local _ .vmem, ⟨8, _⟩ => ⟨S2368x1, .i32⟩
  | .local _ .vmem, ⟨9, _⟩ => ⟨S2368x1, .i32⟩
  | .local _ .vmem, ⟨10, _⟩ => ⟨S32x16, .i32⟩
  | .local _ .smem, ⟨0, _⟩ => ⟨S1x1, .f32⟩
  | .local _ .smem, ⟨1, _⟩ => ⟨S1, .f32⟩
  | _, _ => ⟨S32x8732x81, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_call0_c : Ref sig .tc := ⟨.hbm, 8, rfl⟩
abbrev main_call0_call0_v0 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_call1_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.smem, 0, rfl⟩
abbrev cc0_scratch0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11

abbrev nD : Nat := 1
abbrev τ : Topo := Topo.v7x

variable {F : FTy → Type} [FloatOps F]

abbrev grid0 : Pipeline.Grid := ⟨1, ![118], ![false]⟩

def k0_cond1 (i : grid0.Coords) : BitVec 1 :=
  let arg0 : BitVec 32 := BitVec.ofNat 32 (i 0).val
  let c117_i32 : BitVec 32 := 117#32
  let v71 : BitVec 1 := Scalar.cmpi .eq arg0 c117_i32
  let v72 : BitVec 32 := Scalar.extui v71
  let c0_i32_27 : BitVec 32 := 0#32
  let v73 : BitVec 1 := Scalar.cmpi .ne v72 c0_i32_27
  v73

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2368x81 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2368x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2368x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2368x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2368x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S32x16 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S32x8732x81 : Shape := ⟨3, ![32, 8732, 81]⟩
abbrev S32x8732x4 : Shape := ⟨3, ![32, 8732, 4]⟩
abbrev S32x8732 : Shape := ⟨2, ![32, 8732]⟩
abbrev S_ : Shape := ⟨0, ![]⟩
abbrev S32x8732x1 : Shape := ⟨3, ![32, 8732, 1]⟩
abbrev S32x8732x1x1 : Shape := ⟨4, ![32, 8732, 1, 1]⟩
abbrev S1 : Shape := ⟨1, ![1]⟩
abbrev S1x1x1x1 : Shape := ⟨4, ![1, 1, 1, 1]⟩

abbrev nBuf : Space → Nat
  | .hbm => 121
  | .vmem => 0
  | .smem => 0
  | _ => 0

abbrev bufTy : (tb : Table) → Fin (tcTables nBuf tb) → BufTy
  | .hbm, ⟨0, _⟩ => ⟨S32x8732x81, .f32⟩
  | .hbm, ⟨1, _⟩ => ⟨S32x8732x4, .f32⟩
  | .hbm, ⟨2, _⟩ => ⟨S32x8732, .i32⟩
  | .hbm, ⟨3, _⟩ => ⟨S32x8732x4, .f32⟩
  | .hbm, ⟨4, _⟩ => ⟨S_, .f32⟩
  | .hbm, ⟨5, _⟩ => ⟨S32x8732, .f32⟩
  | .hbm, ⟨6, _⟩ => ⟨S_, .f32⟩
  | .hbm, ⟨7, _⟩ => ⟨S32x8732, .f32⟩
  | .hbm, ⟨8, _⟩ => ⟨S32x8732, .f32⟩
  | .hbm, ⟨9, _⟩ => ⟨S32x8732x1, .f32⟩
  | .hbm, ⟨10, _⟩ => ⟨S32x8732x81, .f32⟩
  | .hbm, ⟨11, _⟩ => ⟨S32x8732x81, .f32⟩
  | .hbm, ⟨12, _⟩ => ⟨S32x8732x81, .f32⟩
  | .hbm, ⟨13, _⟩ => ⟨S_, .f32⟩
  | .hbm, ⟨14, _⟩ => ⟨S32x8732, .f32⟩
  | .hbm, ⟨15, _⟩ => ⟨S32x8732x1, .f32⟩
  | .hbm, ⟨16, _⟩ => ⟨S32x8732x81, .f32⟩
  | .hbm, ⟨17, _⟩ => ⟨S32x8732x81, .f32⟩
  | .hbm, ⟨18, _⟩ => ⟨S_, .i32⟩
  | .hbm, ⟨19, _⟩ => ⟨S32x8732, .i32⟩
  | .hbm, ⟨20, _⟩ => ⟨S32x8732, .i1⟩
  | .hbm, ⟨21, _⟩ => ⟨S32x8732x1, .i1⟩
  | .hbm, ⟨22, _⟩ => ⟨S_, .f32⟩
  | .hbm, ⟨23, _⟩ => ⟨S_, .f32⟩
  | .hbm, ⟨24, _⟩ => ⟨S32x8732x81, .i1⟩
  | .hbm, ⟨25, _⟩ => ⟨S32x8732x81, .f32⟩
  | .hbm, ⟨26, _⟩ => ⟨S32x8732x81, .f32⟩
  | .hbm, ⟨27, _⟩ => ⟨S32x8732x81, .f32⟩
  | .hbm, ⟨28, _⟩ => ⟨S_, .f32⟩
  | .hbm, ⟨29, _⟩ => ⟨S32x8732, .f32⟩
  | .hbm, ⟨30, _⟩ => ⟨S32x8732, .f32⟩
  | .hbm, ⟨31, _⟩ => ⟨S32x8732, .i32⟩
  | .hbm, ⟨32, _⟩ => ⟨S32x8732, .f32⟩
  | .hbm, ⟨33, _⟩ => ⟨S32x8732, .i32⟩
  | .hbm, ⟨34, _⟩ => ⟨S32x8732, .i32⟩
  | .hbm, ⟨35, _⟩ => ⟨S32x8732, .i32⟩
  | .hbm, ⟨36, _⟩ => ⟨S32x8732, .i32⟩
  | .hbm, ⟨37, _⟩ => ⟨S32x8732, .i32⟩
  | .hbm, ⟨38, _⟩ => ⟨S_, .i32⟩
  | .hbm, ⟨39, _⟩ => ⟨S_, .i32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .i32⟩
  | .hbm, ⟨45, _⟩ => ⟨S32x8732, .i32⟩
  | .hbm, ⟨46, _⟩ => ⟨S32x8732, .i1⟩
  | .hbm, ⟨47, _⟩ => ⟨S32x8732, .i1⟩
  | .hbm, ⟨48, _⟩ => ⟨S_, .f32⟩
  | .hbm, ⟨49, _⟩ => ⟨S_, .f32⟩
  | .hbm, ⟨50, _⟩ => ⟨S32x8732, .f32⟩
  | .hbm, ⟨51, _⟩ => ⟨S32x8732, .f32⟩
  | .hbm, ⟨52, _⟩ => ⟨S_, .f32⟩
  | .hbm, ⟨53, _⟩ => ⟨S32x8732, .f32⟩
  | .hbm, ⟨54, _⟩ => ⟨S32x8732, .i1⟩
  | .hbm, ⟨55, _⟩ => ⟨S_, .f32⟩
  | .hbm, ⟨56, _⟩ => ⟨S_, .f32⟩
  | .hbm, ⟨57, _⟩ => ⟨S32x8732, .f32⟩
  | .hbm, ⟨58, _⟩ => ⟨S32x8732, .f32⟩
  | .hbm, ⟨59, _⟩ => ⟨S32x8732x1, .f32⟩
  | .hbm, ⟨60, _⟩ => ⟨S32x8732x81, .f32⟩
  | .hbm, ⟨61, _⟩ => ⟨S32x8732x81, .f32⟩
  | .hbm, ⟨62, _⟩ => ⟨S32x8732x81, .f32⟩
  | .hbm, ⟨63, _⟩ => ⟨S_, .f32⟩
  | .hbm, ⟨64, _⟩ => ⟨S32x8732, .f32⟩
  | .hbm, ⟨65, _⟩ => ⟨S32x8732, .f32⟩
  | .hbm, ⟨66, _⟩ => ⟨S32x8732, .f32⟩
  | .hbm, ⟨67, _⟩ => ⟨S32x8732x1, .i32⟩
  | .hbm, ⟨68, _⟩ => ⟨S_, .i32⟩
  | .hbm, ⟨69, _⟩ => ⟨S32x8732x1, .i32⟩
  | .hbm, ⟨70, _⟩ => ⟨S32x8732x1, .i1⟩
  | .hbm, ⟨71, _⟩ => ⟨S_, .i32⟩
  | .hbm, ⟨72, _⟩ => ⟨S32x8732x1, .i32⟩
  | .hbm, ⟨73, _⟩ => ⟨S32x8732x1, .i32⟩
  | .hbm, ⟨74, _⟩ => ⟨S32x8732x1, .i32⟩
  | .hbm, ⟨75, _⟩ => ⟨S32x8732x1x1, .i32⟩
  | .hbm, ⟨76, _⟩ => ⟨S1, .i32⟩
  | .hbm, ⟨77, _⟩ => ⟨S_, .i32⟩
  | .hbm, ⟨78, _⟩ => ⟨S32x8732x1x1, .i32⟩
  | .hbm, ⟨79, _⟩ => ⟨S32x8732x1x1, .i1⟩
  | .hbm, ⟨80, _⟩ => ⟨S1x1x1x1, .i32⟩
  | .hbm, ⟨81, _⟩ => ⟨S32x8732x1x1, .i32⟩
  | .hbm, ⟨82, _⟩ => ⟨S32x8732x1x1, .i1⟩
  | .hbm, ⟨83, _⟩ => ⟨S32x8732x1x1, .i1⟩
  | .hbm, ⟨84, _⟩ => ⟨S_, .i1⟩
  | .hbm, ⟨85, _⟩ => ⟨S32x8732x1, .i1⟩
  | .hbm, ⟨86, _⟩ => ⟨S32x8732x1, .f32⟩
  | .hbm, ⟨87, _⟩ => ⟨S_, .f32⟩
  | .hbm, ⟨88, _⟩ => ⟨S32x8732x1, .f32⟩
  | .hbm, ⟨89, _⟩ => ⟨S32x8732x1, .f32⟩
  | .hbm, ⟨90, _⟩ => ⟨S32x8732, .f32⟩
  | .hbm, ⟨91, _⟩ => ⟨S32x8732, .f32⟩
  | .hbm, ⟨92, _⟩ => ⟨S_, .f32⟩
  | .hbm, ⟨93, _⟩ => ⟨S_, .f32⟩
  | .hbm, ⟨94, _⟩ => ⟨S32x8732, .f32⟩
  | .hbm, ⟨95, _⟩ => ⟨S32x8732, .f32⟩
  | .hbm, ⟨96, _⟩ => ⟨S_, .f32⟩
  | .hbm, ⟨97, _⟩ => ⟨S_, .f32⟩
  | .hbm, ⟨98, _⟩ => ⟨S32x8732x4, .f32⟩
  | .hbm, ⟨99, _⟩ => ⟨S32x8732x4, .f32⟩
  | .hbm, ⟨100, _⟩ => ⟨S_, .f32⟩
  | .hbm, ⟨101, _⟩ => ⟨S32x8732x4, .f32⟩
  | .hbm, ⟨102, _⟩ => ⟨S32x8732x4, .i1⟩
  | .hbm, ⟨103, _⟩ => ⟨S_, .f32⟩
  | .hbm, ⟨104, _⟩ => ⟨S32x8732x4, .f32⟩
  | .hbm, ⟨105, _⟩ => ⟨S32x8732x4, .f32⟩
  | .hbm, ⟨106, _⟩ => ⟨S32x8732x4, .f32⟩
  | .hbm, ⟨107, _⟩ => ⟨S_, .f32⟩
  | .hbm, ⟨108, _⟩ => ⟨S32x8732x4, .f32⟩
  | .hbm, ⟨109, _⟩ => ⟨S32x8732x4, .f32⟩
  | .hbm, ⟨110, _⟩ => ⟨S32x8732x4, .f32⟩
  | .hbm, ⟨111, _⟩ => ⟨S32x8732x1, .i1⟩
  | .hbm, ⟨112, _⟩ => ⟨S_, .f32⟩
  | .hbm, ⟨113, _⟩ => ⟨S_, .f32⟩
  | .hbm, ⟨114, _⟩ => ⟨S32x8732x4, .i1⟩
  | .hbm, ⟨115, _⟩ => ⟨S32x8732x4, .f32⟩
  | .hbm, ⟨116, _⟩ => ⟨S32x8732x4, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | _, _ => ⟨S32x8732x81, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_call1_v0 : Ref sig .tc := ⟨.hbm, 31, rfl⟩
abbrev main_call1_v1_0 : Ref sig .tc := ⟨.hbm, 32, rfl⟩
abbrev main_v18 : Ref sig .tc := ⟨.hbm, 33, rfl⟩
abbrev main_call2_v0 : Ref sig .tc := ⟨.hbm, 34, rfl⟩
abbrev main_call2_v1_0 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_v33 : Ref sig .tc := ⟨.hbm, 54, rfl⟩
abbrev main_cst_8 : Ref sig .tc := ⟨.hbm, 55, rfl⟩
abbrev main_call3_v0 : Ref sig .tc := ⟨.hbm, 56, rfl⟩
abbrev main_call3_v1 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_9 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_call4_c : Ref sig .tc := ⟨.hbm, 68, rfl⟩
abbrev main_call4_v0 : Ref sig .tc := ⟨.hbm, 69, rfl⟩
abbrev main_call4_v1 : Ref sig .tc := ⟨.hbm, 70, rfl⟩
abbrev main_call4_c_0 : Ref sig .tc := ⟨.hbm, 71, rfl⟩
abbrev main_call4_v2 : Ref sig .tc := ⟨.hbm, 72, rfl⟩
abbrev main_call4_v3 : Ref sig .tc := ⟨.hbm, 73, rfl⟩
abbrev main_call4_v4 : Ref sig .tc := ⟨.hbm, 74, rfl⟩
abbrev main_call4_v5 : Ref sig .tc := ⟨.hbm, 75, rfl⟩
abbrev main_call4_c_1 : Ref sig .tc := ⟨.hbm, 76, rfl⟩
abbrev main_call4_c_2 : Ref sig .tc := ⟨.hbm, 77, rfl⟩
abbrev main_call4_v6 : Ref sig .tc := ⟨.hbm, 78, rfl⟩
abbrev main_call4_v7 : Ref sig .tc := ⟨.hbm, 79, rfl⟩
abbrev main_call4_v8 : Ref sig .tc := ⟨.hbm, 80, rfl⟩
abbrev main_call4_v9 : Ref sig .tc := ⟨.hbm, 81, rfl⟩
abbrev main_call4_v10 : Ref sig .tc := ⟨.hbm, 82, rfl⟩
abbrev main_call4_v11 : Ref sig .tc := ⟨.hbm, 83, rfl⟩
abbrev main_call4_c_3 : Ref sig .tc := ⟨.hbm, 84, rfl⟩
abbrev main_call4_v12 : Ref sig .tc := ⟨.hbm, 85, rfl⟩
abbrev main_call4_v13 : Ref sig .tc := ⟨.hbm, 86, rfl⟩
abbrev main_call4_cst : Ref sig .tc := ⟨.hbm, 87, rfl⟩
abbrev main_call4_v14 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_cst_10 : Ref sig .tc := ⟨.hbm, 92, rfl⟩
abbrev main_call5_v0 : Ref sig .tc := ⟨.hbm, 93, rfl⟩
abbrev main_call5_v1 : Ref sig .tc := ⟨.hbm, 94, rfl⟩
abbrev main_v46 : Ref sig .tc := ⟨.hbm, 95, rfl⟩
abbrev main_cst_11 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_cst_12 : Ref sig .tc := ⟨.hbm, 100, rfl⟩
abbrev main_v50 : Ref sig .tc := ⟨.hbm, 101, rfl⟩
abbrev main_v51 : Ref sig .tc := ⟨.hbm, 102, rfl⟩
abbrev main_cst_13 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_cst_14 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_cst_15 : Ref sig .tc := ⟨.hbm, 112, rfl⟩
abbrev main_call7_v0 : Ref sig .tc := ⟨.hbm, 113, rfl⟩
abbrev main_call7_v1 : Ref sig .tc := ⟨.hbm, 114, rfl⟩
abbrev main_call7_v2 : Ref sig .tc := ⟨.hbm, 115, rfl⟩
abbrev main_v59 : Ref sig .tc := ⟨.hbm, 116, rfl⟩
abbrev main_cst_16 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩

abbrev nD : Nat := 1
abbrev τ : Topo := Topo.v7x

variable {F : FTy → Type} [FloatOps F]
-- ==== Proof.KernelIdealBody.lean ====
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The running total after a grid point, from the point's six input blocks and the total before. -/
def nextTotal (i : grid0.Coords) (x0 : Vec F S2368x81 .f32) (x1 : Vec F S2368x4 .f32) (x2 : Vec F S2368x4 .f32)
    (x3 : Vec F S2368x1 .i32) (x4 : Vec F S2368x1 .i32) (x5 : Vec F S32x16 .i32) (p : Elt F .f32) : Elt F .f32 :=
  k0_pay1 (BitVec.ofNat 32 (i 0).val) (k0_pay4 (F := F) x3) (k0_pay6 x0 x3 x4 x5) x1 x2 p

/-- What the last point stores: its running total over the number of positives. -/
def finalOut (i : grid0.Coords) (x0 : Vec F S2368x81 .f32) (x1 : Vec F S2368x4 .f32) (x2 : Vec F S2368x4 .f32)
    (x3 : Vec F S2368x1 .i32) (x4 : Vec F S2368x1 .i32) (x5 : Vec F S32x16 .i32) (p : Elt F .f32) : Elt F .f32 :=
  Scalar.divf (nextTotal i x0 x1 x2 x3 x4 x5 p) (k0_pay5 x5)

/-- A load of a whole buffer reads what the buffer was stated to hold. -/
theorem load_whole {sp : Space} {S : Shape} {e : EltTy} {m : Memref sig .tc sp S e} (h : m.IsWhole)
    {off : Fin S.rank → ℕ} (h0 : off = fun _ => 0) (inb : ∀ a, off a + S.size a ≤ S.size a) (x : Vec F S e) :
    m.view.readAt (Elt F) (Rect.unit off S.size inb).toLoadRect (h.unread x) = x := by
  rw [View.readAt_eq_ld, h.read_unread, View.ld_unit_zero h0]

/-- A store over a whole buffer leaves the stored values. -/
theorem store_whole {sp : Space} {S : Shape} {e : EltTy} (m : Memref sig .tc sp S e)
    {off : Fin S.rank → ℕ} (h0 : off = fun _ => 0) (inb : ∀ a, off a + S.size a ≤ S.size a)
    (f : m.view.ty.Contents (Elt F)) (w : S.Idx → Elt F e) :
    m.view.read (Elt F) (m.view.writes (Elt F) f [⟨Rect.unit off S.size inb, w⟩]) = w := by
  rw [View.read_writes_eq_canon _ _ _ fun y => ⟨_, List.mem_singleton_self _, View.mem_set_unit_zero h0 inb y⟩,
    View.canon_unit_zero h0]

theorem off1 : (![0] : Fin 1 → ℕ) = fun _ => 0 := by funext a; fin_cases a; rfl
theorem off2 : (![0, 0] : Fin 2 → ℕ) = fun _ => 0 := by funext a; fin_cases a <;> rfl

/-- At every point but the last the body adds its block's terms to the total and leaves the output alone. -/
theorem body_mid (c : Dev nD) (i : grid0.Coords) (arg1 : Memref sig .tc .vmem S2368x81 .f32) (harg1 : arg1.IsWhole) (arg2 : Memref sig .tc .vmem S2368x4 .f32) (harg2 : arg2.IsWhole) (arg3 : Memref sig .tc .vmem S2368x4 .f32) (harg3 : arg3.IsWhole) (arg4 : Memref sig .tc .vmem S2368x1 .i32) (harg4 : arg4.IsWhole) (arg5 : Memref sig .tc .vmem S2368x1 .i32) (harg5 : arg5.IsWhole) (arg6 : Memref sig .tc .vmem S32x16 .i32) (harg6 : arg6.IsWhole) (arg7 : Memref sig .tc .smem S1x1 .f32) (harg7 : arg7.IsWhole) (arg8 : Memref sig .tc .smem S1 .f32) (harg8 : arg8.IsWhole)
    (hc : ¬ k0_cond1 i = 1#1)
    (x0 : Vec F S2368x81 .f32) (x1 : Vec F S2368x4 .f32) (x2 : Vec F S2368x4 .f32) (x3 : Vec F S2368x1 .i32) (x4 : Vec F S2368x1 .i32) (x5 : Vec F S32x16 .i32) (o : Vec F S1x1 .f32) (p : Elt F .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare o ∗ owns (c : Thread nD τ) arg8 fullShare (fun _ => p)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare o
            ∗ owns (c : Thread nD τ) arg8 fullShare (fun _ => nextTotal i x0 x1 x2 x3 x4 x5 p)) -∗ K ⟨⟩))
      ⊢ wp frame (wpE (defs₀ (F := F)) Variants.none c none) E (cc0__main_body i arg1 harg1 arg2 harg2 arg3 harg3 arg4 harg4 arg5 harg5 arg6 harg6 arg7 harg7 arg8 harg8) K := by
  simp only [cc0__main_body_eq_skeleton]; unfold cc0__main_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0
  sl_exec (disch := sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  iexists _; isplitr
  swap; · iexact HS0
  ipureintro
  refine (store_whole arg8 off1 _ _ _).trans (funext fun _ => ?_)
  delta body_mid.sl.r body_mid.sl.r_2 body_mid.sl.r_3 nextTotal
  rw [load_whole harg2 off2, load_whole harg3 off2, load_whole harg1 off2, load_whole harg4 off2, load_whole harg5 off2,
    load_whole harg6 off2, load_whole harg8 off1]

/-- At the last point the body adds its block's terms to the total and stores the total over the number of positives. -/
theorem body_last (c : Dev nD) (i : grid0.Coords) (arg1 : Memref sig .tc .vmem S2368x81 .f32) (harg1 : arg1.IsWhole) (arg2 : Memref sig .tc .vmem S2368x4 .f32) (harg2 : arg2.IsWhole) (arg3 : Memref sig .tc .vmem S2368x4 .f32) (harg3 : arg3.IsWhole) (arg4 : Memref sig .tc .vmem S2368x1 .i32) (harg4 : arg4.IsWhole) (arg5 : Memref sig .tc .vmem S2368x1 .i32) (harg5 : arg5.IsWhole) (arg6 : Memref sig .tc .vmem S32x16 .i32) (harg6 : arg6.IsWhole) (arg7 : Memref sig .tc .smem S1x1 .f32) (harg7 : arg7.IsWhole) (arg8 : Memref sig .tc .smem S1 .f32) (harg8 : arg8.IsWhole)
    (hc : k0_cond1 i = 1#1)
    (x0 : Vec F S2368x81 .f32) (x1 : Vec F S2368x4 .f32) (x2 : Vec F S2368x4 .f32) (x3 : Vec F S2368x1 .i32) (x4 : Vec F S2368x1 .i32) (x5 : Vec F S32x16 .i32) (o : Vec F S1x1 .f32) (p : Elt F .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare o ∗ owns (c : Thread nD τ) arg8 fullShare (fun _ => p)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (fun _ => finalOut i x0 x1 x2 x3 x4 x5 p)
            ∗ owns (c : Thread nD τ) arg8 fullShare (fun _ => nextTotal i x0 x1 x2 x3 x4 x5 p)) -∗ K ⟨⟩))
      ⊢ wp frame (wpE (defs₀ (F := F)) Variants.none c none) E (cc0__main_body i arg1 harg1 arg2 harg2 arg3 harg3 arg4 harg4 arg5 harg5 arg6 harg6 arg7 harg7 arg8 harg8) K := by
  simp only [cc0__main_body_eq_skeleton]; unfold cc0__main_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0
  sl_exec (disch := sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    refine (store_whole arg7 off2 _ _ _).trans (funext fun _ => ?_)
    delta body_last.sl.r body_last.sl.r_1 body_last.sl.r_2 body_last.sl.r_3 finalOut nextTotal k0_pay2
    dsimp only
    rw [load_whole harg2 off2, load_whole harg3 off2, load_whole harg1 off2, load_whole harg4 off2, load_whole harg5 off2,
      load_whole harg6 off2, load_whole harg8 off1]
  iexists _; isplitr
  swap; · iexact HS0
  ipureintro
  refine (store_whole arg8 off1 _ _ _).trans (funext fun _ => ?_)
  delta body_last.sl.r body_last.sl.r_2 body_last.sl.r_3 nextTotal
  rw [load_whole harg2 off2, load_whole harg3 off2, load_whole harg1 off2, load_whole harg4 off2, load_whole harg5 off2,
    load_whole harg6 off2, load_whole harg8 off1]

end Cert.KernelIdeal.Hand

end
-- ==== Proof.KernelIdealRun.lean ====
module

public import proofs.«01_k».proof.Proof.KernelIdealBody
public import proofs.«01_k».proof.Proof.Gen.KernelIdeal.Launch
public import Idealize.ShloMosaic.Lib.Claim
public import Idealize.ShloMosaic.Lib.Pipeline.FrameBody

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The running total over point `t`'s blocks, from the total before. -/
def pointTotal (c : Dev nD) (t : Fin cfg0.N) (p : Elt F .f32) : Elt F .f32 :=
  nextTotal (grid0.coords t) (iblk m c 0 t) (iblk m c 1 t) (iblk m c 2 t) (iblk m c 3 t) (iblk m c 4 t) (iblk m c 5 t) p

/-- The running total after the first `n` points, from zero. -/
def total (c : Dev nD) : ℕ → Elt F .f32
  | 0 => Scalar.ofBits .f32 0x00000000#32
  | n + 1 => if h : n < cfg0.N then pointTotal m c ⟨n, h⟩ (total c n) else total c n

theorem total_succ (c : Dev nD) (t : Fin cfg0.N) : total m c (t.val + 1) = pointTotal m c t (total m c t.val) :=
  dif_pos t.isLt

theorem size_grid : cfg0.N = 118 := by decide

/-- The grid coordinate of point `t` is `t`. -/
theorem coord_eq (t : Fin cfg0.N) : (grid0.coords t 0).val = t.val := by
  have ht : t.val < 118 := Nat.lt_of_lt_of_eq t.isLt size_grid
  have e0 : (grid0.coords t 0).val = t.val / 1 % 118 := Pipeline.Grid.coords_val t 0 (by decide) rfl
  rw [e0]; omega

/-- The body's last-point condition holds at the last point only. -/
theorem last_iff (t : Fin cfg0.N) : k0_cond1 (grid0.coords t) = 1#1 ↔ t.val = 117 := by
  have ht : t.val < 118 := Nat.lt_of_lt_of_eq t.isLt size_grid
  have e0 := coord_eq t
  simp only [k0_cond1, e0]
  word_cmp

/-- At the first point the total starts from zero, whatever the scratch held. -/
theorem pointTotal_first (c : Dev nD) (t : Fin cfg0.N) (ht : t.val = 0) (p q : Elt F .f32) :
    pointTotal m c t p = pointTotal m c t q := by
  unfold pointTotal nextTotal k0_pay1
  rw [coord_eq t, ht]
  rfl

theorem idle_mid : ∀ t : Fin cfg0.N, ¬ k0_cond1 (grid0.coords t) = 1#1 → cfg0.idle 6 (grid0.coords t) = true := by decide +kernel
theorem noFlush_mid : ∀ t : Fin cfg0.N, ¬ k0_cond1 (grid0.coords t) = 1#1 → (cfg0.win 6).flush t = false := by decide +kernel
theorem live_last : ∀ t : Fin cfg0.N, k0_cond1 (grid0.coords t) = 1#1 → cfg0.idle 6 (grid0.coords t) = false := by decide +kernel

/-- The scratch buffer as a whole memref. -/
abbrev scratch : Memref sig .tc .smem S1 .f32 := Memref.whole cc0_scratch0

/-- What the launch hands the region: the scratch at anything and the generator register. -/
theorem handed_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

/-- The invariant before point `n`: at first what the launch hands over, then the scratch at the running total. -/
def inv (c : Dev nD) : ℕ → sProp 𝕄
  | 0 => Pipeline.ΦA spec0 c
  | n + 1 => iprop(owns (c : Thread nD τ) scratch fullShare (fun _ => total m c (n + 1)) ∗ (∃ r, prngReg c r))

theorem inv_zero (c : Dev nD) {n : ℕ} (h : n = 0) : inv m c n = Pipeline.ΦA spec0 c := by subst h; rfl

theorem inv_succ (c : Dev nD) (n : ℕ) :
    inv m c (n + 1) = iprop(owns (c : Thread nD τ) scratch fullShare (fun _ => total m c (n + 1)) ∗ (∃ r, prngReg c r)) := rfl

theorem inv_pos (c : Dev nD) {n : ℕ} (h : n ≠ 0) :
    inv m c n = iprop(owns (c : Thread nD τ) scratch fullShare (fun _ => total m c n) ∗ (∃ r, prngReg c r)) := by
  cases n with
  | zero => exact absurd rfl h
  | succ n => rfl

/-- The value the last point stores, stated at every point. -/
def outAt (c : Dev nD) (t : Fin cfg0.N) : Elt F .f32 :=
  finalOut (grid0.coords t) (iblk m c 0 t) (iblk m c 1 t) (iblk m c 2 t) (iblk m c 3 t) (iblk m c 4 t) (iblk m c 5 t)
    (total m c t.val)

/-- The pipeline's proof data: each input's buffer at its block, the output's at `outAt`, the invariant `inv`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => fun _ => outAt m c t
  Φ t := inv m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = fun _ => outAt m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
abbrev stg0 (t : Fin cfg0.N) : Memref sig .tc .vmem S2368x81 .f32 := win0_0.stage (cfg0.slots t 0)
abbrev stg1 (t : Fin cfg0.N) : Memref sig .tc .vmem S2368x4 .f32 := win0_1.stage (cfg0.slots t 1)
abbrev stg2 (t : Fin cfg0.N) : Memref sig .tc .vmem S2368x4 .f32 := win0_2.stage (cfg0.slots t 2)
abbrev stg3 (t : Fin cfg0.N) : Memref sig .tc .vmem S2368x1 .i32 := win0_3.stage (cfg0.slots t 3)
abbrev stg4 (t : Fin cfg0.N) : Memref sig .tc .vmem S2368x1 .i32 := win0_4.stage (cfg0.slots t 4)
abbrev stg5 (t : Fin cfg0.N) : Memref sig .tc .vmem S32x16 .i32 := win0_5.stage (cfg0.slots t 5)
abbrev stg6 (t : Fin cfg0.N) : Memref sig .tc .smem S1x1 .f32 := win0_6.stage (cfg0.slots t 6)
theorem leaves0 (c : Dev nD) (t : Fin cfg0.N) :
    (dats m 0 c).leavesExact 0 t = owns (c : Thread nD τ) (stg0 t) fullShare (iblk m c 0 t) := by
  unfold Dat.leavesExact; rw [show cfg0.idle 0 (grid0.coords t) = false from rfl, after0]
theorem leaves1 (c : Dev nD) (t : Fin cfg0.N) :
    (dats m 0 c).leavesExact 1 t = owns (c : Thread nD τ) (stg1 t) fullShare (iblk m c 1 t) := by
  unfold Dat.leavesExact; rw [show cfg0.idle 1 (grid0.coords t) = false from rfl, after1]
theorem leaves2 (c : Dev nD) (t : Fin cfg0.N) :
    (dats m 0 c).leavesExact 2 t = owns (c : Thread nD τ) (stg2 t) fullShare (iblk m c 2 t) := by
  unfold Dat.leavesExact; rw [show cfg0.idle 2 (grid0.coords t) = false from rfl, after2]
theorem leaves3 (c : Dev nD) (t : Fin cfg0.N) :
    (dats m 0 c).leavesExact 3 t = owns (c : Thread nD τ) (stg3 t) fullShare (iblk m c 3 t) := by
  unfold Dat.leavesExact; rw [show cfg0.idle 3 (grid0.coords t) = false from rfl, after3]
theorem leaves4 (c : Dev nD) (t : Fin cfg0.N) :
    (dats m 0 c).leavesExact 4 t = owns (c : Thread nD τ) (stg4 t) fullShare (iblk m c 4 t) := by
  unfold Dat.leavesExact; rw [show cfg0.idle 4 (grid0.coords t) = false from rfl, after4]
theorem leaves5 (c : Dev nD) (t : Fin cfg0.N) :
    (dats m 0 c).leavesExact 5 t = owns (c : Thread nD τ) (stg5 t) fullShare (iblk m c 5 t) := by
  unfold Dat.leavesExact; rw [show cfg0.idle 5 (grid0.coords t) = false from rfl, after5]

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d)))

/-- What the body returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem scratch_const (d : Vec F S1 .f32) : ∃ p, d = fun _ => p :=
  ⟨d (fun a => ⟨0, by fin_cases a; decide⟩), funext fun y => congrArg d (funext fun a => by
    fin_cases a; exact Fin.ext (Nat.lt_one_iff.mp (y _).isLt))⟩

set_option maxHeartbeats 4000000 in
/-- The body at any point, from the two runs: the last point stores the output, the others leave it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = inv m c (t.val + 1) from rfl, inv_succ,
    show (dats m 0 c).Φ t.castSucc = inv m c t.val from rfl]
  rw [leaves0, leaves1, leaves2, leaves3, leaves4, leaves5]
  by_cases hl : t.val = 117
  · have hc := (last_iff t).mpr hl
    have h6 : (dats m 0 c).leavesExact 6 t = owns (c : Thread nD τ) (stg6 t) fullShare (fun _ => outAt m c t) := by
      unfold Dat.leavesExact; rw [live_last t hc, after6]; try rfl
    rw [h6, inv_pos m c (by omega : t.val ≠ 0)]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    rw [total_succ m c t]
    unfold pointTotal
    unfold outAt
    iapply (body_last c (grid0.coords t) _ _ _ _ _ _ _ _ _ _ _ _ _ _ _ _ hc (iblk m c 0 t) (iblk m c 1 t) (iblk m c 2 t) (iblk m c 3 t) (iblk m c 4 t) (iblk m c 5 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    iintro ⟨H0, H1, H2, H3, H4, H5, H6, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hc := fun h => hl ((last_iff t).mp h)
    rw [Dat.leavesExact_idle (dats m 0 c) 6 t (idle_mid t hc) (noFlush_mid t hc)]
    by_cases hz : t.val = 0
    · rw [inv_zero m c hz, handed_eq]
      iintro ⟨⟨⟨%s0, HS0⟩, Hg⟩, Ho, ⟨%d0, H0⟩, ⟨%d1, H1⟩, ⟨%d2, H2⟩, ⟨%d3, H3⟩, ⟨%d4, H4⟩, ⟨%d5, H5⟩, ⟨%d6, H6⟩⟩
      obtain ⟨p, rfl⟩ : ∃ p, s0 = fun _ => p := scratch_const s0
      rw [show total m c (t.val + 1) = pointTotal m c t p from (total_succ m c t).trans (pointTotal_first m c t hz _ _)]
      unfold pointTotal
      iapply (body_mid c (grid0.coords t) _ _ _ _ _ _ _ _ _ _ _ _ _ _ _ _ hc (iblk m c 0 t) (iblk m c 1 t) (iblk m c 2 t) (iblk m c 3 t) (iblk m c 4 t) (iblk m c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [inv_pos m c hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      rw [total_succ m c t]
      unfold pointTotal
      iapply (body_mid c (grid0.coords t) _ _ _ _ _ _ _ _ _ _ _ _ _ _ _ _ hc (iblk m c 0 t) (iblk m c 1 t) (iblk m c 2 t) (iblk m c 3 t) (iblk m c 4 t) (iblk m c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

theorem hin (c : Dev nD) : Pipeline.ΦA spec0 c ⊢ (dats m 0 c).Φ 0 := by
  rw [show (dats m 0 c).Φ 0 = inv m c 0 from rfl, inv_zero m c rfl]
  try exact Idealize.SL.BI.Entails.refl _

/-- After the last point the scratch's contents are forgotten. -/
theorem hout (c : Dev nD) : (dats m 0 c).Φ (Fin.last cfg0.N) ⊢ Pipeline.ΦA spec0 c := by
  rw [show (dats m 0 c).Φ (Fin.last cfg0.N) = inv m c cfg0.N from rfl, inv_pos m c (by decide), handed_eq]
  iintro ⟨HS0, Hg⟩
  isplitl [HS0]
  · iexists _; iexact HS0
  iexact Hg

set_option backward.isDefEq.respectTransparency.types false in
set_option maxHeartbeats 800000 in
/-- The launch: every array of the pipeline ends at what the proof data says, every other buffer as the lines after
    the region leave it, every counter at zero. -/
theorem run_main : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The kernel's frame: it terminates, its arguments end unchanged, its counters at zero. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Hand

end
-- ==== Proof.BlockValue.lean ====
module

public import proofs.«01_k».proof.Proof.KernelIdealRun
public import Idealize.ShloMosaic.Lib.Pipeline.ValueKit
public import Idealize.ShloMosaic.Lib.Pointwise.TacticCore
public import Idealize.ShloMosaic.Lib.Tactic.CleanTypes

@[expose] public section

set_option maxRecDepth 16384

noncomputable section

namespace Cert.KernelIdeal.Hand

open Idealize.ShloMosaic Idealize.ShloMosaic.TcCoe
open Idealize.SL Idealize.SL.Sem
open Cert.KernelIdeal.Gen

variable (m : (ℓ : Loc nD τ sig) → Buf (Elt Ideal) ℓ)

/-- The class scores before the region, as one matrix of priors. -/
theorem V11 (c : Dev nD) : V m c main_v11 =
    shapeCast S279424x81 (m ((c : Thread nD τ).loc main_arg0)) shapeCasts_S32x8732x81_S279424x81 := by
  show StableHlo.after [hostOps0, hostOps0_1, hostOps0_2, hostOps0_3, hostOps0_4].flatten (fun b => m (c, b))
    (Proc.tc.devRef main_v11) = _
  simp only [hostOps0, hostOps0_1, hostOps0_2, hostOps0_3, hostOps0_4, List.flatten_cons, List.flatten_nil,
    List.append_nil, List.cons_append, List.nil_append]
  entry_read
  rfl

/-- The predicted offsets before the region. -/
theorem V12 (c : Dev nD) : V m c main_v12 =
    shapeCast S279424x4 (m ((c : Thread nD τ).loc main_arg1)) shapeCasts_S32x8732x4_S279424x4 := by
  show StableHlo.after [hostOps0, hostOps0_1, hostOps0_2, hostOps0_3, hostOps0_4].flatten (fun b => m (c, b))
    (Proc.tc.devRef main_v12) = _
  simp only [hostOps0, hostOps0_1, hostOps0_2, hostOps0_3, hostOps0_4, List.flatten_cons, List.flatten_nil,
    List.append_nil, List.cons_append, List.nil_append]
  entry_read
  rfl

/-- The target offsets before the region. -/
theorem V13 (c : Dev nD) : V m c main_v13 =
    shapeCast S279424x4 (m ((c : Thread nD τ).loc main_arg3)) shapeCasts_S32x8732x4_S279424x4 := by
  show StableHlo.after [hostOps0, hostOps0_1, hostOps0_2, hostOps0_3, hostOps0_4].flatten (fun b => m (c, b))
    (Proc.tc.devRef main_v13) = _
  simp only [hostOps0, hostOps0_1, hostOps0_2, hostOps0_3, hostOps0_4, List.flatten_cons, List.flatten_nil,
    List.append_nil, List.cons_append, List.nil_append]
  entry_read
  rfl

/-- The labels before the region. -/
theorem V14 (c : Dev nD) : V m c main_v14 =
    shapeCast S279424x1 (m ((c : Thread nD τ).loc main_arg2)) shapeCasts_S32x8732_S279424x1 := by
  show StableHlo.after [hostOps0, hostOps0_1, hostOps0_2, hostOps0_3, hostOps0_4].flatten (fun b => m (c, b))
    (Proc.tc.devRef main_v14) = _
  simp only [hostOps0, hostOps0_1, hostOps0_2, hostOps0_3, hostOps0_4, List.flatten_cons, List.flatten_nil,
    List.append_nil, List.cons_append, List.nil_append]
  entry_read
  rfl

/-- The flags of the negative priors, as integers. -/
def negFlags (lab : S32x8732.Idx → BitVec 32) : S32x8732.Idx → BitVec 32 :=
  extui 32 (cmpi CmpIPredicate.sle lab (broadcastInDim S32x8732 ![] bcast_S_S32x8732 (constantI S_ 32 0#32))) natLt_1_32

/-- The negative priors before each prior in its row, as the host counts them. -/
def hostRank (lab : S32x8732.Idx → BitVec 32) : S32x8732.Idx → BitVec 32 :=
  subi (Host.reduceWindow IntOp.addi ![1, 8732] ![1, 1] ![0, 8731] ![0, 0] (negFlags lab)
    (broadcastInDim S_ ![] bcast_S_S_ (constantI S_ 32 0#32))
    reduceWindows_S32x8732_S32x8732_w1s1p0_0_w8732s1p8731_0 h_S_) (negFlags lab)

/-- The positive priors of each row, in the first of sixteen columns, as the host counts them. -/
def hostCounts (lab : S32x8732.Idx → BitVec 32) : S32x16.Idx → BitVec 32 :=
  pad S32x16 ![0, 0] ![0, 15] ![0, 0] (broadcastInDim S32x1 ![0] bcast_S32_S32x1_0
    (Host.reduce IntOp.addi (extui 32 (cmpi CmpIPredicate.sgt lab
      (broadcastInDim S32x8732 ![] bcast_S_S32x8732 (constantI S_ 32 0#32))) natLt_1_32)
      (constantI S_ 32 0#32) reducesTo_S32x8732_S32_d1 h_S_)) (constantI S_ 32 0#32) pads_S32x1_S32x16_000_0150 h_S_

/-- The ranks before the region. -/
theorem V15 (c : Dev nD) : V m c main_v15 =
    shapeCast S279424x1 (hostRank (m ((c : Thread nD τ).loc main_arg2))) shapeCasts_S32x8732_S279424x1 := by
  show StableHlo.after [hostOps0, hostOps0_1, hostOps0_2, hostOps0_3, hostOps0_4].flatten (fun b => m (c, b))
    (Proc.tc.devRef main_v15) = _
  simp only [hostOps0, hostOps0_1, hostOps0_2, hostOps0_3, hostOps0_4, List.flatten_cons, List.flatten_nil,
    List.append_nil, List.cons_append, List.nil_append]
  entry_read
  simp -implicitDefEqProofs only [StableHlo.TRef.toBuf, StableHlo.TRef.ofBuf, cast_cast, cast_eq]
  unfold hostRank negFlags
  clean_types
  rfl

/-- The counts before the region. -/
theorem V10 (c : Dev nD) : V m c main_v10 = hostCounts (m ((c : Thread nD τ).loc main_arg2)) := by
  show StableHlo.after [hostOps0, hostOps0_1, hostOps0_2, hostOps0_3, hostOps0_4].flatten (fun b => m (c, b))
    (Proc.tc.devRef main_v10) = _
  simp only [hostOps0, hostOps0_1, hostOps0_2, hostOps0_3, hostOps0_4, List.flatten_cons, List.flatten_nil,
    List.append_nil, List.cons_append, List.nil_append]
  entry_read
  simp -implicitDefEqProofs only [StableHlo.TRef.toBuf, StableHlo.TRef.ofBuf, cast_cast, cast_eq]
  unfold hostCounts
  clean_types
  rfl

theorem index0 : ∀ t : Fin cfg0.N, (cfg0.win 0).index t 0 = t.val ∧ (cfg0.win 0).index t 1 = 0 := by decide +kernel
theorem index1 : ∀ t : Fin cfg0.N, (cfg0.win 1).index t 0 = t.val ∧ (cfg0.win 1).index t 1 = 0 := by decide +kernel
theorem index2 : ∀ t : Fin cfg0.N, (cfg0.win 2).index t 0 = t.val ∧ (cfg0.win 2).index t 1 = 0 := by decide +kernel
theorem index3 : ∀ t : Fin cfg0.N, (cfg0.win 3).index t 0 = t.val ∧ (cfg0.win 3).index t 1 = 0 := by decide +kernel
theorem index4 : ∀ t : Fin cfg0.N, (cfg0.win 4).index t 0 = t.val ∧ (cfg0.win 4).index t 1 = 0 := by decide +kernel
theorem index5 : ∀ t : Fin cfg0.N, (cfg0.win 5).index t 0 = 0 ∧ (cfg0.win 5).index t 1 = 0 := by decide +kernel

/-- The row of the prior at flat position `n`. -/
def rowOf (n : ℕ) : Fin 32 := ⟨n / 8732 % 32, Nat.mod_lt _ (by decide)⟩
/-- The place within its row of the prior at flat position `n`. -/
def colOf (n : ℕ) : Fin 8732 := ⟨n % 8732, Nat.mod_lt _ (by decide)⟩

theorem row_lt (t : Fin cfg0.N) (i : Fin 2368) : t.val * 2368 + i.val < 279424 := by
  have := t.isLt; have := size_grid; have := i.isLt; omega

theorem rowOf_eq (n : ℕ) (h : n < 279424) : rowOf n = ⟨n / 8732, by omega⟩ :=
  Fin.ext (Nat.mod_eq_of_lt (by omega))

/-- A matrix of the priors' single entries reads the array it lays out flat. -/
theorem flat_row {α : Type} (g : S32x8732.Idx → α) (n : ℕ) (hn : n < 279424) (k : Fin 1) :
    shapeCast S279424x1 g shapeCasts_S32x8732_S279424x1 (ix2 ⟨n, hn⟩ k) = g (ix2 (rowOf n) (colOf n)) := by
  pointwise
  rw [rowOf_eq n hn]
  rfl

/-- A matrix of the priors' 81 entries reads the array it lays out flat. -/
theorem flat_row81 {α : Type} (g : S32x8732x81.Idx → α) (n : ℕ) (hn : n < 279424) (k : Fin 81) :
    shapeCast S279424x81 g shapeCasts_S32x8732x81_S279424x81 (ix2 ⟨n, hn⟩ k) = g (ix3 (rowOf n) (colOf n) k) := by
  pointwise
  rw [rowOf_eq n hn]
  rfl

/-- A matrix of the priors' four entries reads the array it lays out flat. -/
theorem flat_row4 {α : Type} (g : S32x8732x4.Idx → α) (n : ℕ) (hn : n < 279424) (k : Fin 4) :
    shapeCast S279424x4 g shapeCasts_S32x8732x4_S279424x4 (ix2 ⟨n, hn⟩ k) = g (ix3 (rowOf n) (colOf n) k) := by
  pointwise
  rw [rowOf_eq n hn]
  rfl

/-- A block of the class scores at an entry. -/
theorem iblk0_at (c : Dev nD) (t : Fin cfg0.N) (i : Fin 2368) (k : Fin 81) :
    iblk m c 0 t (ix2 i k) = (m ((c : Thread nD τ).loc main_arg0))
      (ix3 (rowOf (t.val * 2368 + i.val)) (colOf (t.val * 2368 + i.val)) k) := by
  have e : iblk m c 0 t (ix2 i k) = V m c main_v11 (ix2 ⟨t.val * 2368 + i.val, row_lt t i⟩ k) := by
    blk_simp [iblk]
    blk_ext [index0 t]
  rw [e, V11]
  exact flat_row81 _ _ _ k

/-- A block of the predicted offsets at an entry. -/
theorem iblk1_at (c : Dev nD) (t : Fin cfg0.N) (i : Fin 2368) (k : Fin 4) :
    iblk m c 1 t (ix2 i k) = (m ((c : Thread nD τ).loc main_arg1))
      (ix3 (rowOf (t.val * 2368 + i.val)) (colOf (t.val * 2368 + i.val)) k) := by
  have e : iblk m c 1 t (ix2 i k) = V m c main_v12 (ix2 ⟨t.val * 2368 + i.val, row_lt t i⟩ k) := by
    blk_simp [iblk]
    blk_ext [index1 t]
  rw [e, V12]
  exact flat_row4 _ _ _ k

/-- A block of the target offsets at an entry. -/
theorem iblk2_at (c : Dev nD) (t : Fin cfg0.N) (i : Fin 2368) (k : Fin 4) :
    iblk m c 2 t (ix2 i k) = (m ((c : Thread nD τ).loc main_arg3))
      (ix3 (rowOf (t.val * 2368 + i.val)) (colOf (t.val * 2368 + i.val)) k) := by
  have e : iblk m c 2 t (ix2 i k) = V m c main_v13 (ix2 ⟨t.val * 2368 + i.val, row_lt t i⟩ k) := by
    blk_simp [iblk]
    blk_ext [index2 t]
  rw [e, V13]
  exact flat_row4 _ _ _ k

/-- A block of the labels at an entry. -/
theorem iblk3_at (c : Dev nD) (t : Fin cfg0.N) (i : Fin 2368) (k : Fin 1) :
    iblk m c 3 t (ix2 i k) = (m ((c : Thread nD τ).loc main_arg2))
      (ix2 (rowOf (t.val * 2368 + i.val)) (colOf (t.val * 2368 + i.val))) := by
  have e : iblk m c 3 t (ix2 i k) = V m c main_v14 (ix2 ⟨t.val * 2368 + i.val, row_lt t i⟩ k) := by
    blk_simp [iblk]
    blk_ext [index3 t]
  rw [e, V14]
  exact flat_row _ _ _ k

/-- A block of the ranks at an entry. -/
theorem iblk4_at (c : Dev nD) (t : Fin cfg0.N) (i : Fin 2368) (k : Fin 1) :
    iblk m c 4 t (ix2 i k) = hostRank (m ((c : Thread nD τ).loc main_arg2))
      (ix2 (rowOf (t.val * 2368 + i.val)) (colOf (t.val * 2368 + i.val))) := by
  have e : iblk m c 4 t (ix2 i k) = V m c main_v15 (ix2 ⟨t.val * 2368 + i.val, row_lt t i⟩ k) := by
    blk_simp [iblk]
    blk_ext [index4 t]
  rw [e, V15]
  exact flat_row _ _ _ k

/-- The counts' block at an entry, the same at every point. -/
theorem iblk5_at (c : Dev nD) (t : Fin cfg0.N) (i : Fin 32) (k : Fin 16) :
    iblk m c 5 t (ix2 i k) = hostCounts (m ((c : Thread nD τ).loc main_arg2)) (ix2 i k) := by
  have e : iblk m c 5 t (ix2 i k) = V m c main_v10 (ix2 i k) := by
    blk_simp [iblk]
    blk_ext [index5 t]
  rw [e, V10]

end Cert.KernelIdeal.Hand
-- ==== Proof.Spec.lean ====
module

public import Idealize.ShloMosaic.Lib.Pointwise.TacticCore
public import Idealize.ShloMosaic.Lib.IdealHost

@[expose] public section

noncomputable section

namespace Cert.Spec

open Idealize.ShloMosaic

/-- The largest of a prior's class scores. -/
def top (x : Fin 81 → EReal) : EReal := Finset.fold max (Ideal.ofBits FTy.f32 4286578688#32) x Finset.univ

/-- The logarithm of the sum of the exponentials of a prior's class scores. -/
def lse (x : Fin 81 → EReal) : EReal := top x + Ideal.log (∑ k, Ideal.exp (x k - top x))

/-- A prior's class score at its label. -/
def atLabel (x : Fin 81 → EReal) (lab : BitVec 32) : EReal :=
  ∑ k : Fin 81, Scalar.select (IntOp.cmpi .eq (BitVec.ofNat 32 k.val) lab) (x k) 0

/-- The flag of a positive prior. -/
def pos (lab : BitVec 32) : BitVec 1 := IntOp.cmpi .sgt lab 0#32

/-- How many negatives each row may take, out of the count of positives. -/
def quota (cnt : EReal) : BitVec 32 := Ideal.fptosi 32 (Ideal.ofBits FTy.f32 1077936128#32 * cnt)

/-- What one prior adds to the confidence loss. -/
def confTerm (x : Fin 81 → EReal) (lab rank : BitVec 32) (cnt : EReal) : EReal :=
  Scalar.select (IntOp.ori (pos lab) (IntOp.cmpi .slt rank (quota cnt))) (lse x - atLabel x lab) 0

/-- The smooth absolute difference of two numbers. -/
def huber (a b : EReal) : EReal :=
  if FloatOps.absf (F := Ideal) (φ := .f32) (a - b) < 1 then Ideal.ofBits .f32 1056964608#32 * (a - b) * (a - b)
  else FloatOps.absf (F := Ideal) (φ := .f32) (a - b) - Ideal.ofBits .f32 1056964608#32

/-- What one prior adds to the localisation loss. -/
def locTerm (a b : Fin 4 → EReal) (lab : BitVec 32) : EReal :=
  ∑ k, Scalar.select (pos lab) (huber (a k) (b k)) 0

end Cert.Spec
-- ==== Proof.KernelValue.lean ====
module

public import proofs.«01_k».proof.Proof.BlockValue
public import proofs.«01_k».proof.Proof.Spec
public import Idealize.ShloMosaic.Lib.Affine

@[expose] public section

set_option maxRecDepth 16384

noncomputable section

namespace Cert.KernelIdeal.Hand

open Idealize.ShloMosaic Idealize.ShloMosaic.TcCoe
open Idealize.SL Idealize.SL.Sem
open Cert.KernelIdeal.Gen

/-- What one grid point adds to the running total, in the priors of its blocks. -/
theorem nextTotal_value (i : grid0.Coords) (x0 : S2368x81.Idx → EReal) (x1 x2 : S2368x4.Idx → EReal)
    (x3 x4 : S2368x1.Idx → BitVec 32) (x5 : S32x16.Idx → BitVec 32) (p : EReal) :
    nextTotal (F := Ideal) i x0 x1 x2 x3 x4 x5 p =
      Scalar.select (Scalar.cmpi .eq (BitVec.ofNat 32 (i 0).val) 0#32) 0 p
        + ∑ j : Fin 2368, Spec.confTerm (fun k => x0 (ix2 j k)) (x3 (ix2 j 0)) (x4 (ix2 j 0)) (k0_pay5 (F := Ideal) x5)
        + ∑ j : Fin 2368, Spec.locTerm (fun k => x1 (ix2 j k)) (fun k => x2 (ix2 j k)) (x3 (ix2 j 0)) := by
  have h4 : ∀ j : Fin 2368, k0_pay4 (F := Ideal) x3 (ix2 j 0) = Spec.pos (x3 (ix2 j 0)) := by
    intro j
    pointwise [k0_pay4, k0_pay3]
    rfl
  have h3 : ∀ j : Fin 2368, k0_pay3 (F := Ideal) x3 (ix2 j 0) = x3 (ix2 j 0) := by
    intro j
    pointwise [k0_pay3]
  have h6 : ∀ j, k0_pay6 (F := Ideal) x0 x3 x4 x5 j = ∑ j : Fin 2368, Spec.confTerm (fun k => x0 (ix2 j k)) (x3 (ix2 j 0)) (x4 (ix2 j 0)) (k0_pay5 (F := Ideal) x5) := by
    intro j
    pointwise [k0_pay6]
    refine Finset.sum_congr rfl fun a _ => ?_
    simp only [Finset.univ_unique, Finset.sum_singleton, Fin.default_eq_zero]
    rw [h4, h3]
    rfl
  pointwise [nextTotal, k0_pay1]
  rw [h6]
  simp only [h4]
  rfl

variable (m : (ℓ : Loc nD τ sig) → Buf (Elt Ideal) ℓ)

/-- The class scores, the predicted offsets, the labels and the target offsets at launch. -/
abbrev conf (c : Dev nD) : S32x8732x81.Idx → EReal := m ((c : Thread nD τ).loc main_arg0)
abbrev pred (c : Dev nD) : S32x8732x4.Idx → EReal := m ((c : Thread nD τ).loc main_arg1)
abbrev labels (c : Dev nD) : S32x8732.Idx → BitVec 32 := m ((c : Thread nD τ).loc main_arg2)
abbrev goal (c : Dev nD) : S32x8732x4.Idx → EReal := m ((c : Thread nD τ).loc main_arg3)

/-- The count of positives the kernel takes from the host's row counts. -/
def count (lab : S32x8732.Idx → BitVec 32) : EReal := k0_pay5 (F := Ideal) (hostCounts lab)

/-- What the prior at flat position `n` adds to the confidence loss. -/
def confAt (c : Dev nD) (n : ℕ) : EReal :=
  Spec.confTerm (fun k => conf m c (ix3 (rowOf n) (colOf n) k)) (labels m c (ix2 (rowOf n) (colOf n)))
    (hostRank (labels m c) (ix2 (rowOf n) (colOf n))) (count (labels m c))

/-- What the prior at flat position `n` adds to the localisation loss. -/
def locAt (c : Dev nD) (n : ℕ) : EReal :=
  Spec.locTerm (fun k => pred m c (ix3 (rowOf n) (colOf n) k)) (fun k => goal m c (ix3 (rowOf n) (colOf n) k))
    (labels m c (ix2 (rowOf n) (colOf n)))

/-- The counts' block is the host's table at every point. -/
theorem count_eq (c : Dev nD) (t : Fin cfg0.N) : k0_pay5 (F := Ideal) (iblk m c 5 t) = count (labels m c) := by
  unfold count
  refine congrArg (k0_pay5 (F := Ideal)) (funext fun j => ?_)
  rw [eq_ix2 (n0 := 32) (n1 := 16) j]
  exact iblk5_at m c t _ _

/-- One grid point adds its block of priors to the running total. -/
theorem pointTotal_value (c : Dev nD) (t : Fin cfg0.N) (p : EReal) (hp : t.val = 0 → p = 0) :
    pointTotal m c t p = p + ∑ j ∈ Finset.range 2368, confAt m c (t.val * 2368 + j)
      + ∑ j ∈ Finset.range 2368, locAt m c (t.val * 2368 + j) := by
  have hs : Scalar.select (Scalar.cmpi .eq (BitVec.ofNat 32 (grid0.coords t 0).val) 0#32) 0 p = p := by
    by_cases h0 : t.val = 0
    · rw [hp h0]
      exact ite_self _
    · refine if_neg ?_
      rw [coord_eq]
      have ht : t.val < 118 := Nat.lt_of_lt_of_eq t.isLt size_grid
      intro h
      refine h0 ?_
      have h' : BitVec.ofNat 32 t.val = 0#32 := IntOp.cmpi_eq.1 h
      have := congrArg BitVec.toNat h'
      simp only [BitVec.toNat_ofNat] at this
      omega
  have hf := nextTotal_value (grid0.coords t) (iblk m c 0 t) (iblk m c 1 t) (iblk m c 2 t) (iblk m c 3 t) (iblk m c 4 t)
    (iblk m c 5 t) p
  rw [hs, count_eq] at hf
  refine hf.trans ?_
  rw [Finset.sum_range, Finset.sum_range]
  refine congrArg₂ (· + ·) (congrArg (p + ·) (Finset.sum_congr rfl fun j _ => ?_)) (Finset.sum_congr rfl fun j _ => ?_)
  · rw [iblk3_at, iblk4_at]
    simp only [iblk0_at]
    rfl
  · rw [iblk3_at]
    simp only [iblk1_at, iblk2_at]
    rfl

/-- The running total after `n` points: the first `n` blocks of priors. -/
theorem total_value (c : Dev nD) (n : ℕ) (hn : n ≤ 118) :
    total m c n = ∑ j ∈ Finset.range (n * 2368), confAt m c j + ∑ j ∈ Finset.range (n * 2368), locAt m c j := by
  induction n with
  | zero =>
    show Ideal.ofBits .f32 0x00000000#32 = _
    rw [Ideal.ofBits_zero_f32]
    simp
  | succ n ih =>
    have ht : n < cfg0.N := by rw [size_grid]; omega
    have e := total_succ m c ⟨n, ht⟩
    refine e.trans ?_
    rw [pointTotal_value m c ⟨n, ht⟩ (total m c n) ?_, ih (by omega), Nat.succ_mul, Finset.sum_range_add, Finset.sum_range_add]
    · exact (add_assoc _ _ _).trans (add_add_add_comm _ _ _ _)
    · intro h0
      obtain rfl : n = 0 := h0
      exact Ideal.ofBits_zero_f32

/-- The last grid point. -/
def lastPoint : Fin cfg0.N := ⟨117, by rw [size_grid]; omega⟩

/-- What the last point writes: the whole of both losses over the count of positives. -/
theorem outAt_last (c : Dev nD) : outAt m c lastPoint =
    Ideal.div (∑ j ∈ Finset.range 279424, confAt m c j + ∑ j ∈ Finset.range 279424, locAt m c j) (count (labels m c)) := by
  have e : outAt m c lastPoint = Ideal.div (total m c 118) (k0_pay5 (F := Ideal) (iblk m c 5 lastPoint)) := by
    rw [show total m c 118 = _ from total_succ m c lastPoint]
    rfl
  rw [e, total_value m c 118 (le_refl _), count_eq]

/-- The output's array after the region. -/
theorem array_last (c : Dev nD) : (dats m 0 c).arrAt 6 cfg0.N = fun _ => outAt m c lastPoint := by
  refine (dats m 0 c).arrAt_eq_of_after_last 6 lastPoint (by decide +kernel) _ fun j => ?_
  blk_simp
  rw [after6]

/-- The program's result. -/
theorem result_eq (c : Dev nD) : Pipeline.afterTail₀ cfgs (dats m) 0 (V0 m) [hostOps1] c main_v17 =
    fun _ => outAt m c lastPoint := by
  unfold Pipeline.afterTail₀
  simp only [hostOps1, List.flatten_cons, List.flatten_nil, List.append_nil]
  after_results
  have e : Pipeline.withArrays (cfgs 0).spec c (V0 m c) (fun w => (dats m 0 c).arrAt w (cfgs 0).N) (Proc.tc.devRef main_v16)
      = fun _ => outAt m c lastPoint :=
    (Pipeline.withArrays_arr (cfgs 0).spec launch0.win.arr_inj c (V0 m c) (fun w => (dats m 0 c).arrAt w (cfgs 0).N) 6).trans
      (array_last m c)
  rw [e]
  rfl

end Cert.KernelIdeal.Hand
-- ==== Proof.SortRank.lean ====
module

public import Idealize.ShloMosaic.Lib.PlanTiles.StableSort
public import Idealize.ShloMosaic.Lib.Routing.Ops
public import Idealize.ShloMosaic.Lib.Affine

@[expose] public section

namespace Cert.SortRank

open Idealize.ShloMosaic Idealize.ShloMosaic.Routing Idealize.ShloMosaic.ValueIdx Idealize.ShloMosaic.PlanTiles

/-! ## A stable sort into two classes, and the sort of its positions -/

section Positions

variable {n : Nat} (P : Fin n → Prop) [DecidablePred P]

/-- The comparison of a sort that puts the members of `P` first. -/
def firstClass (a b : Fin n) : Bool := decide (P a ∧ ¬ P b)

/-- Of two sorted positions, the earlier one is in the first class with the later one not, or both are in one class and
    keep their order. -/
theorem sortedFrom_class (i j : Fin n) (hij : i < j) :
    (P (sortedFrom (firstClass P) i) ∧ ¬ P (sortedFrom (firstClass P) j))
      ∨ ((P (sortedFrom (firstClass P) i) ↔ P (sortedFrom (firstClass P) j))
        ∧ sortedFrom (firstClass P) i < sortedFrom (firstClass P) j) := by
  have hR : (fun x y : Fin n => decide ((if P y then 1 else 0 : Nat) < (if P x then 1 else 0))) = firstClass P := by
    funext x y
    unfold firstClass
    by_cases hx : P x <;> by_cases hy : P y <;> simp [hx, hy]
  have h := pairwise_stableSort_lex (fun a : Fin n => if P a then 1 else 0) (· < ·) (List.finRange n)
    (List.pairwise_lt_finRange n)
  rw [hR] at h
  have h2 := List.pairwise_iff_get.mp h (i.cast (length_sortPositions n (firstClass P)).symm)
    (j.cast (length_sortPositions n (firstClass P)).symm) hij
  change PlanTiles.Lex _ _ (sortedFrom (firstClass P) i) (sortedFrom (firstClass P) j) at h2
  unfold PlanTiles.Lex at h2
  by_cases hi : P (sortedFrom (firstClass P) i) <;> by_cases hj : P (sortedFrom (firstClass P) j) <;>
    simp [hi, hj] at h2 ⊢ <;> exact h2

/-- Where the sort put a member of the first class: after the members before it, and nothing else. -/
theorem place_eq_count (k p : Fin n) (hk : sortedFrom (firstClass P) k = p) (hp : P p) :
    k.val = Nat.count (fun q => ∃ h : q < n, P ⟨q, h⟩) p.val := by
  have hiff : ∀ i : Fin n, i < k ↔ (P (sortedFrom (firstClass P) i) ∧ sortedFrom (firstClass P) i < p) := by
    intro i
    constructor
    · intro h
      rcases sortedFrom_class P i k h with ⟨_, h2⟩ | ⟨h1, h2⟩
      · rw [hk] at h2; exact absurd hp h2
      · rw [hk] at h1 h2; exact ⟨h1.mpr hp, h2⟩
    · rintro ⟨h1, h2⟩
      rcases lt_trichotomy i k with h | h | h
      · exact h
      · subst h; rw [hk] at h2; exact absurd h2 (lt_irrefl _)
      · rcases sortedFrom_class P k i h with ⟨_, h4⟩ | ⟨_, h4⟩
        · exact absurd h1 h4
        · rw [hk] at h4; exact absurd (lt_trans h2 h4) (lt_irrefl _)
  classical
  have hcard : (Finset.univ.filter fun i : Fin n => i < k).card = (Finset.univ.filter fun q : Fin n => P q ∧ q < p).card := by
    refine Finset.card_bij (fun i _ => sortedFrom (firstClass P) i) ?_ ?_ ?_
    · intro i hi
      have := (hiff i).mp (by simpa using hi)
      simpa using this
    · intro i _ j _ e
      exact sortedFrom_injective _ e
    · intro q hq
      obtain ⟨i, rfl⟩ := sortedFrom_surjective (firstClass P) q
      exact ⟨i, by simpa using (hiff i).mpr (by simpa using hq), rfl⟩
  have hl : (Finset.univ.filter fun i : Fin n => i < k).card = k.val := by
    rw [show (Finset.univ.filter fun i : Fin n => i < k) = Finset.Iio k by ext; simp]
    exact Fin.card_Iio k
  rw [← hl, hcard, Nat.count_eq_card_filter_range]
  refine Finset.card_bij (fun q _ => q.val) ?_ ?_ ?_
  · intro q hq
    simp only [Finset.mem_filter, Finset.mem_univ, true_and] at hq
    simp only [Finset.mem_filter, Finset.mem_range]
    exact ⟨hq.2, q.isLt, hq.1⟩
  · intro a _ b _ e
    exact Fin.ext e
  · intro q hq
    simp only [Finset.mem_filter, Finset.mem_range] at hq
    obtain ⟨h1, h2, h3⟩ := hq
    exact ⟨⟨q, h2⟩, by simp only [Finset.mem_filter, Finset.mem_univ, true_and]; exact ⟨h3, h1⟩, rfl⟩

/-- Sorting the sorted positions themselves inverts the first sort. -/
theorem sortedFrom_of_sorted (R : Fin n → Fin n → Bool) (p : Fin n) :
    sortedFrom R (sortedFrom (fun a b => decide (sortedFrom R a < sortedFrom R b)) p) = p := by
  set σ := sortedFrom R with hσ
  set τ := sortedFrom (fun a b => decide (σ a < σ b)) with hτ
  have hmono : StrictMono fun i => σ (τ i) := by
    intro i j hij
    have h := sortedFrom_noInversion (fun a b => decide (σ a < σ b)) (fun a b => decide (σ a < σ b))
      (fun a b h => by simp only [decide_eq_true_eq, decide_eq_false_iff_not] at h ⊢; exact lt_asymm h) (fun _ _ h => h)
      (fun a b c h1 h2 => by simp only [decide_eq_false_iff_not, not_lt] at h1 h2 ⊢; exact le_trans h2 h1) i j hij
    simp only [decide_eq_false_iff_not, not_lt] at h
    refine lt_of_le_of_ne h fun e => ?_
    exact absurd (sortedFrom_injective _ (sortedFrom_injective R e)) (ne_of_lt hij)
  have : (fun i => σ (τ i)) = id := by
    have h := Subsingleton.elim (hmono.orderIsoOfSurjective _ (Finite.surjective_of_injective hmono.injective))
      (OrderIso.refl (Fin n))
    funext i
    exact congrArg (fun e : Fin n ≃o Fin n => e i) h
  exact congrFun this p

end Positions

/-! ## The two argsorts of a matrix's rows -/

/-- Position `k` of row `r`. -/
theorem along_row {R n : Nat} (r : Fin R) (p k : Fin n) (hd : 1 < (shape2 R n).rank) :
    (ix2 r p : (shape2 R n).Idx).along ⟨1, hd⟩ k = ix2 r k := by
  funext a
  match a with
  | ⟨0, _⟩ => rfl
  | ⟨1, _⟩ => rfl

/-- An argsort along the rows, at an entry: the position the sort brings there. -/
theorem argsort_apply {R n : Nat} {α : Type} (cmp : α × BitVec 32 → α × BitVec 32 → BitVec 1) (x : (shape2 R n).Idx → α)
    (y : IVec (shape2 R n) 32) (r : Fin R) (before : Fin n → Fin n → Bool)
    (hb : ∀ a b, (cmp (x (ix2 r a), y (ix2 r a)) (x (ix2 r b), y (ix2 r b)) == 1#1) = before a b) (p : Fin n) :
    (Host.sort2 (shape2 R n) 1 cmp x y).2 (ix2 r p) = y (ix2 r (sortedFrom before p)) := by
  have hd : 1 < (shape2 R n).rank := Nat.one_lt_two
  unfold Host.sort2
  rw [dif_pos hd]
  show y ((ix2 r p : (shape2 R n).Idx).along ⟨1, hd⟩ (sortedFrom (n := n) (fun k k' : Fin n =>
    cmp (x ((ix2 r p : (shape2 R n).Idx).along ⟨1, hd⟩ k), y ((ix2 r p : (shape2 R n).Idx).along ⟨1, hd⟩ k))
      (x ((ix2 r p : (shape2 R n).Idx).along ⟨1, hd⟩ k'), y ((ix2 r p : (shape2 R n).Idx).along ⟨1, hd⟩ k')) == 1#1) p)) = _
  rw [along_row, show (fun k k' : Fin n =>
    cmp (x ((ix2 r p : (shape2 R n).Idx).along ⟨1, hd⟩ k), y ((ix2 r p : (shape2 R n).Idx).along ⟨1, hd⟩ k))
      (x ((ix2 r p : (shape2 R n).Idx).along ⟨1, hd⟩ k'), y ((ix2 r p : (shape2 R n).Idx).along ⟨1, hd⟩ k')) == 1#1) = before from
    funext fun a => funext fun b => by rw [along_row, along_row]; exact hb a b]

/-- The argsort of the argsort, at a member of the sort's first class: the number of members before it in its row. -/
theorem argsort_argsort {R n : Nat} (hn : n < 2 ^ 31) {α : Type} (cmp : α × BitVec 32 → α × BitVec 32 → BitVec 1)
    (cmp2 : BitVec 32 × BitVec 32 → BitVec 32 × BitVec 32 → BitVec 1)
    (hcmp2 : ∀ a b, cmp2 a b = IntOp.cmpi .slt a.1 b.1) (x : (shape2 R n).Idx → α)
    (y : IVec (shape2 R n) 32) (hy : ∀ r p, y (ix2 r p) = BitVec.ofNat 32 p.val) (r : Fin R)
    (P : Fin n → Prop) [DecidablePred P]
    (hb : ∀ a b, (cmp (x (ix2 r a), y (ix2 r a)) (x (ix2 r b), y (ix2 r b)) == 1#1) = firstClass P a b)
    (p : Fin n) (hp : P p) :
    (Host.sort2 (shape2 R n) 1 cmp2 (Host.sort2 (shape2 R n) 1 cmp x y).2 y).2 (ix2 r p)
      = BitVec.ofNat 32 (Nat.count (fun q => ∃ h : q < n, P ⟨q, h⟩) p.val) := by
  rw [argsort_apply cmp2 _ y r
    (fun a b => decide (sortedFrom (firstClass P) a < sortedFrom (firstClass P) b)) (fun a b => ?_) p, hy]
  · exact congrArg _ (place_eq_count P _ p (sortedFrom_of_sorted (firstClass P) p) hp)
  · rw [hcmp2]
    show (IntOp.cmpi .slt ((Host.sort2 (shape2 R n) 1 cmp x y).2 (ix2 r a)) ((Host.sort2 (shape2 R n) 1 cmp x y).2 (ix2 r b)) == 1#1) = _
    rw [argsort_apply cmp x y r (firstClass P) hb, argsort_apply cmp x y r (firstClass P) hb, hy, hy]
    have ha := (sortedFrom (firstClass P) a).isLt
    have hb' := (sortedFrom (firstClass P) b).isLt
    rw [Bool.eq_iff_iff, beq_iff_eq, decide_eq_true_iff, IntOp.cmpi_slt,
      StableHlo.Predicate.toInt_ofNat_small _ (by omega), StableHlo.Predicate.toInt_ofNat_small _ (by omega)]
    exact Int.ofNat_lt

/-! ## The running sum along the rows of a matrix -/

/-- jnp's `cumsum(axis=1)` of a matrix, as it prints: where entry `(r, i)` holds `f i`, entry `(r, j)` of the result holds
    `f 0 + … + f j`. -/
theorem cumsum_row {R N Nm1 : Nat} (hN : Nm1 + 1 = N) (x : IVec (shape2 R N) 32) (r : Fin R) (f : Nat → Nat)
    (hx : ∀ i : Fin N, x (ix2 r i) = BitVec.ofNat 32 (f i.val)) (init : IVec shape0 32) (hinit : init ix0 = 0#32)
    (h : (shape2 R N).ReduceWindows (![1, N] : Fin 2 → Nat) ![1, 1] ![0, Nm1] ![0, 0] (shape2 R N))
    (h1 : (shape2 1 N).ReduceWindows (![1, N] : Fin 2 → Nat) ![1, 1] ![0, Nm1] ![0, 0] (shape2 1 N))
    (hu : 0 < shape0.numel) (j : Fin N) :
    Host.reduceWindow IntOp.addi ![1, N] ![1, 1] ![0, Nm1] ![0, 0] x init h hu (ix2 r j)
      = BitVec.ofNat 32 ((List.range (j.val + 1)).map f).sum := by
  rw [← cumsum2 hN (fun i => x (ix2 r (i 1))) f hx init hinit h1 hu j]
  unfold Host.reduceWindow
  dsimp only
  refine congrArg (fun g : BitVec 32 → Fin _ → BitVec 32 => List.foldl g (init (Shape.Idx.first hu)) _) ?_
  funext acc n
  refine congrArg (IntOp.addi acc) ?_
  have hw0 : (((shape2 1 N).rowMajor.symm n) 0).val = 0 := Nat.lt_one_iff.mp (((shape2 1 N).rowMajor.symm n) 0).isLt
  have hr := r.isLt
  split
  · next hin =>
    have hj1 := hin 1
    rw [dif_pos (fun a => by
      match a with
      | ⟨0, _⟩ =>
        show 0 ≤ 0 * 1 + (((shape2 1 N).rowMajor.symm n) 0).val ∧ 0 * 1 + (((shape2 1 N).rowMajor.symm n) 0).val - 0 < 1
        omega
      | ⟨1, _⟩ => exact hj1)]
    refine congrArg x (funext fun a => Fin.ext ?_)
    match a with
    | ⟨0, _⟩ =>
      show r.val * 1 + (((shape2 1 N).rowMajor.symm n) 0).val - 0 = r.val
      omega
    | ⟨1, _⟩ => rfl
  · next hin =>
    rw [dif_neg fun hin' => hin fun a => by
      match a with
      | ⟨0, _⟩ =>
        show 0 ≤ r.val * 1 + (((shape2 1 N).rowMajor.symm n) 0).val ∧ r.val * 1 + (((shape2 1 N).rowMajor.symm n) 0).val - 0 < R
        omega
      | ⟨1, _⟩ => exact hin' 1]

end Cert.SortRank
-- ==== Proof.KernelCount.lean ====
module

public import proofs.«01_k».proof.Proof.KernelValue
public import proofs.«01_k».proof.Proof.SortRank

@[expose] public section

set_option maxRecDepth 16384

noncomputable section

namespace Cert.KernelIdeal.Hand

open Cert.KernelIdeal Cert.KernelIdeal.Gen Idealize.ShloMosaic Idealize.ShloMosaic.TcCoe Idealize.SL.Sem

/-- The sum of a row's indicators is a count. -/
theorem sum_indicators (Q : ℕ → Prop) [DecidablePred Q] (n : ℕ) : ((List.range n).map fun q => if Q q then 1 else 0).sum = Nat.count Q n := by
  induction n with
  | zero => rfl
  | succ n ih => rw [List.range_succ, List.map_append, List.sum_append, ih, Nat.count_succ]; simp

/-- A bit that is not one is zero. -/
theorem not_one : ∀ b : BitVec 1, ¬ b = 1#1 → b = 0#1 := by decide

/-- A label is at most zero exactly when its prior is not positive. -/
theorem flag_neg (lab : BitVec 32) [Decidable (Spec.pos lab = 1#1)] :
    (IntOp.cmpi .sle lab 0#32).setWidth 32 = BitVec.ofNat 32 (if ¬ Spec.pos lab = 1#1 then 1 else 0) := by
  have h : IntOp.cmpi .sle lab 0#32 = 1#1 ↔ ¬ Spec.pos lab = 1#1 := by
    unfold Spec.pos
    rw [IntOp.cmpi_sle, IntOp.cmpi_sgt, not_lt]
  by_cases hp : Spec.pos lab = 1#1
  · rw [if_neg (not_not.2 hp), not_one _ fun e => (h.1 e) hp]
    rfl
  · rw [if_pos hp, h.2 hp]
    rfl

/-- The host's rank of a prior counts the negatives before it in its row. -/
theorem hostRank_at (lab : S32x8732.Idx → BitVec 32) (r : Fin 32) (p : Fin 8732) :
    hostRank lab (ix2 r p)
      = BitVec.ofNat 32 (Nat.count (fun q => ∃ h : q < 8732, ¬ Spec.pos (lab (ix2 r ⟨q, h⟩)) = 1#1) p.val) := by
  classical
  have hflag : ∀ i : Fin 8732, negFlags lab (ix2 r i)
      = BitVec.ofNat 32 (if ∃ h : i.val < 8732, ¬ Spec.pos (lab (ix2 r ⟨i.val, h⟩)) = 1#1 then 1 else 0) := by
    intro i
    refine (flag_neg (lab (ix2 r i))).trans (congrArg (BitVec.ofNat 32) ?_)
    exact if_congr ⟨fun h => ⟨i.isLt, h⟩, fun h => h.2⟩ rfl rfl
  have e := SortRank.cumsum_row (R := 32) (N := 8732) (Nm1 := 8731) rfl (negFlags lab) r
    (fun q => if ∃ h : q < 8732, ¬ Spec.pos (lab (ix2 r ⟨q, h⟩)) = 1#1 then 1 else 0) hflag
    (broadcastInDim S_ ![] bcast_S_S_ (constantI S_ 32 0#32)) rfl
    reduceWindows_S32x8732_S32x8732_w1s1p0_0_w8732s1p8731_0 (by decide) h_S_ p
  rw [sum_indicators, Nat.count_succ] at e
  refine (congrArg₂ (· - ·) e (hflag p)).trans ?_
  rw [BitVec.ofNat_add]
  exact add_sub_cancel_right _ _

/-- The host's count of a row, at its column. -/
theorem hostCounts_at (lab : S32x8732.Idx → BitVec 32) (r : Fin 32) (k : Fin 16) :
    hostCounts lab (ix2 r k) = if k = 0 then ∑ p : Fin 8732, (Spec.pos (lab (ix2 r p))).setWidth 32 else 0 := by
  pointwise [hostCounts]
  by_cases hk : k = 0
  · rw [if_pos hk, dif_pos (by rw [hk]; decide)]
    rfl
  · rw [if_neg hk, dif_neg fun h => hk (Fin.ext (by rw [Nat.lt_one_iff.1 h]; rfl))]
    rfl

/-- The kernel's count of positives is the integer the positive flags sum to. -/
theorem count_sum (lab : S32x8732.Idx → BitVec 32) :
    count lab = (((∑ r : Fin 32, ∑ p : Fin 8732, (Spec.pos (lab (ix2 r p))).setWidth 32 : BitVec 32).toInt : ℝ) : EReal) := by
  have e : count lab = (((Finset.fold IntOp.addi 0#32 (fun x : Fin 32 × Fin 16 => hostCounts lab (ix2 x.1 x.2)) Finset.univ).toInt : ℝ) : EReal) := by
    unfold count
    generalize hostCounts lab = v
    pointwise [k0_pay5]
  rw [e]
  refine congrArg (fun w : BitVec 32 => ((w.toInt : ℝ) : EReal)) ?_
  refine Eq.trans (b := ∑ x : Fin 32 × Fin 16, hostCounts lab (ix2 x.1 x.2)) rfl ?_
  rw [Fintype.sum_prod_type]
  refine Finset.sum_congr rfl fun r _ => ?_
  simp only [hostCounts_at]
  exact Finset.sum_ite_eq' _ _ _ |>.trans (if_pos (Finset.mem_univ _))

/-- The sum over the flat positions is the sum over the rows and the priors of each. -/
theorem sum_flat (g : Fin 32 → Fin 8732 → EReal) :
    ∑ n ∈ Finset.range 279424, g (rowOf n) (colOf n) = ∑ r : Fin 32, ∑ p : Fin 8732, g r p := by
  have h : ∀ R : ℕ, ∑ n ∈ Finset.range (R * 8732), g (rowOf n) (colOf n)
      = ∑ r ∈ Finset.range R, ∑ p ∈ Finset.range 8732, g (rowOf (r * 8732 + p)) (colOf (r * 8732 + p)) := by
    intro R
    induction R with
    | zero => rw [Nat.zero_mul]; rfl
    | succ R ih =>
      rw [Nat.succ_mul, Finset.sum_range_add, ih]
      exact (Finset.sum_range_succ _ R).symm
  refine (h 32).trans ?_
  rw [Finset.sum_range]
  refine Finset.sum_congr rfl fun r _ => ?_
  rw [Finset.sum_range]
  refine Finset.sum_congr rfl fun p _ => ?_
  have b0 := r.isLt
  have b1 := p.isLt
  refine congrArg₂ g (Fin.ext ?_) (Fin.ext ?_)
  · show (r.val * 8732 + p.val) / 8732 % 32 = r.val
    omega
  · show (r.val * 8732 + p.val) % 8732 = p.val
    omega

end Cert.KernelIdeal.Hand
-- ==== Proof.Softmax.lean ====
module

public import proofs.«01_k».proof.Proof.Spec

@[expose] public section

noncomputable section

namespace Cert.Spec

open Idealize.ShloMosaic

theorem bits_neg_inf : Ideal.ofBits FTy.f32 4286578688#32 = ⊥ := by
  simp [Ideal.ofBits, Ideal.ieee]

/-- The largest score is the supremum of the scores. -/
theorem top_eq (x : Fin 81 → EReal) : top x = Finset.univ.sup x := by
  unfold top
  rw [bits_neg_inf]
  rfl

theorem le_top (x : Fin 81 → EReal) (k : Fin 81) : x k ≤ top x := by
  rw [top_eq]
  exact Finset.le_sup (Finset.mem_univ k)

/-- Some class score is the largest. -/
theorem exists_top (x : Fin 81 → EReal) : ∃ k, x k = top x := by
  rw [top_eq]
  obtain ⟨k, -, hk⟩ := Finset.exists_mem_eq_sup Finset.univ ⟨(0 : Fin 81), Finset.mem_univ _⟩ x
  exact ⟨k, hk.symm⟩

/-- Below a real top the exponential of the distance to it is a real number of at least zero. -/
theorem exp_sub_real (a : EReal) (M : ℝ) (h : a ≤ M) : ∃ e : ℝ, 0 ≤ e ∧ Ideal.exp (a - (M : EReal)) = (e : EReal) := by
  induction a with
  | bot => exact ⟨0, le_refl _, by rw [EReal.bot_sub]; rfl⟩
  | top => exact absurd h (not_le.2 (EReal.coe_lt_top M))
  | coe r => exact ⟨Real.exp (r - M), (Real.exp_pos _).le, by rw [← EReal.coe_sub]; rfl⟩

/-- The sum of real numbers is the real number of their sum. -/
theorem sum_coe {ι : Type} (s : Finset ι) (e : ι → ℝ) : ∑ k ∈ s, (e k : EReal) = ((∑ k ∈ s, e k : ℝ) : EReal) := by
  classical
  induction s using Finset.induction_on with
  | empty => simp
  | insert a s ha ih => rw [Finset.sum_insert ha, Finset.sum_insert ha, ih, EReal.coe_add]

/-- The magnitudes of a softmax add up to one when the largest score is a real number. -/
theorem softmax_sum (x : Fin 81 → EReal) (M : ℝ) (hM : top x = M) :
    ∑ k, FloatOps.absf (F := Ideal) (φ := .f32) (Ideal.div (Ideal.exp (x k - top x)) (∑ j, Ideal.exp (x j - top x))) = 1 := by
  have hr : ∀ k, ∃ e : ℝ, 0 ≤ e ∧ Ideal.exp (x k - top x) = (e : EReal) := fun k => by
    rw [hM]; exact exp_sub_real _ M (hM ▸ le_top x k)
  choose e he0 he using hr
  obtain ⟨k0, hk0⟩ := exists_top x
  have h1 : e k0 = 1 := by
    have := he k0
    rw [hk0, hM, ← EReal.coe_sub, sub_self] at this
    have h2 : ((1 : ℝ) : EReal) = (e k0 : EReal) := by
      rw [← this]
      show _ = ((Real.exp 0 : ℝ) : EReal)
      rw [Real.exp_zero]
    exact (EReal.coe_injective h2).symm
  have hs : 0 < ∑ j, e j := lt_of_lt_of_le (by rw [h1]; exact one_pos) (Finset.single_le_sum (fun j _ => he0 j) (Finset.mem_univ k0))
  simp only [he, sum_coe]
  have hd : ∀ k, FloatOps.absf (F := Ideal) (φ := .f32) (Ideal.div (e k : EReal) ((∑ j, e j : ℝ) : EReal)) = ((e k / ∑ j, e j : ℝ) : EReal) := by
    intro k
    have hq : Ideal.div (e k : EReal) ((∑ j, e j : ℝ) : EReal) = ((e k / ∑ j, e j : ℝ) : EReal) := by
      unfold Ideal.div
      rw [if_neg (by exact_mod_cast hs.ne'), ← EReal.coe_inv, ← EReal.coe_mul, div_eq_mul_inv]
    rw [hq, Ideal.absf_def]
    refine max_eq_left ?_
    rw [← EReal.coe_neg]
    have : 0 ≤ e k / ∑ j, e j := div_nonneg (he0 k) hs.le
    exact_mod_cast (by linarith : -(e k / ∑ j, e j) ≤ e k / ∑ j, e j)
  simp only [hd, sum_coe]
  rw [← Finset.sum_div, div_self hs.ne']
  rfl

/-- The top of a row lies under infinity in magnitude exactly when it is a real number. -/
theorem real_of_abs_lt (a : EReal) (h : max a (-a) < ⊤) : ∃ M : ℝ, a = M := by
  induction a with
  | bot => simp at h
  | top => simp at h
  | coe r => exact ⟨r, rfl⟩

end Cert.Spec
-- ==== Proof.RefScore.lean ====
module

public import proofs.«01_k».proof.Proof.Softmax
public import proofs.«01_k».proof.Proof.SortRank
public import proofs.«01_k».proof.Proof.Gen.ReferenceIdeal.Read

@[expose] public section

set_option maxRecDepth 16384

noncomputable section

namespace Cert.ReferenceIdeal.Hand

open Cert.ReferenceIdeal Cert.ReferenceIdeal.Gen Cert.ReferenceIdeal.Read Idealize.ShloMosaic

/-- An index of a matrix of priors by its two coordinates. -/
theorem at2 (i : S32x8732.Idx) (r : Fin 32) (p : Fin 8732) (h0 : (i 0).val = r.val) (h1 : (i 1).val = p.val) : i = ix2 r p := by
  funext a
  match a with
  | ⟨0, _⟩ => exact Fin.ext h0
  | ⟨1, _⟩ => exact Fin.ext h1

/-- An index of a matrix of single columns by its coordinates. -/
theorem at3 {n : ℕ} (i : (⟨3, ![32, 8732, n]⟩ : Shape).Idx) (r : Fin 32) (p : Fin 8732) (k : Fin n) (h0 : (i 0).val = r.val) (h1 : (i 1).val = p.val)
    (h2 : (i 2).val = k.val) : i = ix3 r p k := by
  funext a
  match a with
  | ⟨0, _⟩ => exact Fin.ext h0
  | ⟨1, _⟩ => exact Fin.ext h1
  | ⟨2, _⟩ => exact Fin.ext h2

/-- The maximum over the classes. -/
theorem max_row (x : S32x8732x81.Idx → EReal) (init : S_.Idx → EReal) (hi : ∀ i, init i = Ideal.ofBits .f32 0xFF800000#32) (r : Fin 32) (p : Fin 8732) :
    Host.reduce (FloatOps.maximumf (F := Ideal) (φ := .f32)) x init reducesTo_S32x8732x81_S32x8732_d2 h_S_ (ix2 r p)
      = Spec.top (fun k => x (ix3 r p k)) := by
  have h := Host.reduce_eq_fold_single (FloatOps.maximumf (F := Ideal) (φ := .f32)) x init reducesTo_S32x8732x81_S32x8732_d2
    (by decide) h_S_ (ix2 r p)
  refine h.trans ?_
  rw [hi]
  unfold Spec.top
  refine congrArg (fun f => Finset.fold max (Ideal.ofBits .f32 0xFF800000#32) f Finset.univ) (funext fun k => ?_)
  exact congrArg x (at3 _ r p k rfl rfl rfl)

variable (x0 : S32x8732x81.Idx → EReal) (x2 : S32x8732.Idx → BitVec 32)

/-- A prior's class scores. -/
abbrev scores (r : Fin 32) (p : Fin 8732) : Fin 81 → EReal := fun k => x0 (ix3 r p k)

theorem v2_at (r : Fin 32) (p : Fin 8732) : val_main_v2 (F := Ideal) x0 (ix2 r p) = Spec.top (scores x0 r p) := by
  rw [val_main_v2_apply, val_main_v1_apply, val_main_cst_0_apply]
  unfold val_main_v0
  rw [max_row x0 (val_main_cst (F := Ideal)) (fun _ => rfl) r p]
  show max (Ideal.ofBits .f32 0xFF800000#32) _ = _
  rw [Spec.bits_neg_inf]
  exact max_eq_right bot_le

theorem v6_at (r : Fin 32) (p : Fin 8732) (k : Fin 81) :
    val_main_v6 (F := Ideal) x0 (ix3 r p k) = Ideal.exp (x0 (ix3 r p k) - Spec.top (scores x0 r p)) := by
  rw [val_main_v6_apply, val_main_v5_apply, val_main_v4_apply, val_main_v3_apply, at2 (idx_main_v3 _) r p rfl rfl, v2_at]
  rfl

theorem v7_at (r : Fin 32) (p : Fin 8732) :
    val_main_v7 (F := Ideal) x0 (ix2 r p) = ∑ k, Ideal.exp (x0 (ix3 r p k) - Spec.top (scores x0 r p)) := by
  rw [val_main_v7_apply, val_main_cst_1_apply]
  show Ideal.ofBits .f32 0x00000000#32 + _ = _
  rw [Ideal.ofBits_zero_f32, zero_add]
  refine Finset.sum_congr rfl fun k _ => ?_
  rw [at3 (idx_main_v7 (ix2 r p) k) r p k rfl rfl rfl, v6_at]

theorem v10_at (r : Fin 32) (p : Fin 8732) (k : Fin 81) :
    val_main_v10 (F := Ideal) x0 (ix3 r p k) = Ideal.div (Ideal.exp (x0 (ix3 r p k) - Spec.top (scores x0 r p)))
      (∑ j, Ideal.exp (x0 (ix3 r p j) - Spec.top (scores x0 r p))) := by
  rw [val_main_v10_apply, val_main_v9_apply, val_main_v8_apply, at2 (idx_main_v8 _) r p rfl rfl, v7_at, v6_at]
  rfl

theorem v12_at (r : Fin 32) (p : Fin 8732) : val_main_v12 (F := Ideal) x2 (ix2 r p) = Spec.pos (x2 (ix2 r p)) := by
  rw [val_main_v12_apply, val_main_v11_apply, val_main_c_apply]
  rfl

theorem v14_at (r : Fin 32) (p : Fin 8732) (k : Fin 81) :
    val_main_v14 (F := Ideal) x0 x2 (ix3 r p k) = Scalar.select (Spec.pos (x2 (ix2 r p))) 0 (val_main_v10 (F := Ideal) x0 (ix3 r p k)) := by
  rw [val_main_v14_apply, val_main_call0_v1_apply, val_main_v13_apply, at2 (idx_main_v13 _) r p rfl rfl, v12_at,
    val_main_call0_v2_apply, val_main_call0_v0_apply, val_main_cst_2_apply]
  show Scalar.select _ (Ideal.ofBits .f32 0x00000000#32) _ = _
  rw [Ideal.ofBits_zero_f32]

/-- The sort key of a prior: minus one for a negative, zero for a positive. -/
theorem v17_at (r : Fin 32) (p : Fin 8732) (M : ℝ) (hM : Spec.top (scores x0 r p) = M) :
    val_main_v17 (F := Ideal) x0 x2 (ix2 r p) = if Spec.pos (x2 (ix2 r p)) = 1#1 then 0 else -1 := by
  have h16 : val_main_v16 (F := Ideal) x0 x2 (ix2 r p) = ∑ k, FloatOps.absf (F := Ideal) (φ := .f32) (val_main_v14 (F := Ideal) x0 x2 (ix3 r p k)) := by
    rw [val_main_v16_apply, val_main_cst_3_apply]
    show Ideal.ofBits .f32 0x00000000#32 + _ = _
    rw [Ideal.ofBits_zero_f32, zero_add]
    refine Finset.sum_congr rfl fun k _ => ?_
    rw [at3 (idx_main_v16 (ix2 r p) k) r p k rfl rfl rfl, val_main_v15_apply]
    rfl
  rw [val_main_v17_apply, h16]
  show -(∑ k, FloatOps.absf (F := Ideal) (φ := .f32) (val_main_v14 (F := Ideal) x0 x2 (ix3 r p k))) = _
  simp only [v14_at, v10_at]
  by_cases hp : Spec.pos (x2 (ix2 r p)) = 1#1
  · rw [if_pos hp]
    simp only [Scalar.select, hp, if_true]
    simp [Ideal.absf_def]
  · rw [if_neg hp]
    refine congrArg Neg.neg ((Finset.sum_congr rfl fun k _ => congrArg _ ?_).trans (Spec.softmax_sum (scores x0 r p) M hM))
    exact if_neg hp

/-- The sort's comparison of two real keys. -/
theorem comparator_at (a b : EReal) (i j : BitVec 32) : comparator_f32_i32_d1 (F := Ideal) (a, i) (b, j) = Ideal.cmp .olt a b := by
  have hn : ∀ c : EReal, Scalar.select (FloatOps.cmpf (F := Ideal) (φ := .f32) .une c c) (FloatOps.ofBits (F := Ideal) .f32 0x7FC00000#32)
      (Scalar.select (FloatOps.cmpf (F := Ideal) (φ := .f32) .oeq c (FloatOps.ofBits (F := Ideal) .f32 0x00000000#32))
        (FloatOps.ofBits (F := Ideal) .f32 0x00000000#32) c) = c := by
    intro c
    simp only [Ideal.cmpf_def, Ideal.ofBits_def, Ideal.ofBits_zero_f32, Ideal.cmp]
    by_cases hc : c = 0 <;> simp [Scalar.select, hc]
  unfold comparator_f32_i32_d1
  dsimp only
  rw [hn, hn]
  rfl

theorem cmp_class (P : Fin 8732 → Prop) [DecidablePred P] (a b : Fin 8732) :
    (Ideal.cmp .olt (if P a then -1 else 0) (if P b then -1 else 0) == 1#1) = SortRank.firstClass P a b := by
  have h : (-1 : EReal) < 0 := by
    rw [EReal.neg_lt_comm]
    simp
  by_cases ha : P a <;> by_cases hb : P b <;> simp [ha, hb, Ideal.cmp, SortRank.firstClass, h, h.not_gt]

/-- The place in its row of a negative prior among the negatives, as the two argsorts give it. -/
theorem v19_at (r : Fin 32) (hM : ∀ p, ∃ M : ℝ, Spec.top (scores x0 r p) = M) (p : Fin 8732) (hp : ¬ Spec.pos (x2 (ix2 r p)) = 1#1) :
    val_main_v19 (F := Ideal) x0 x2 (ix2 r p)
      = BitVec.ofNat 32 (Nat.count (fun q => ∃ h : q < 8732, ¬ Spec.pos (x2 (ix2 r ⟨q, h⟩)) = 1#1) p.val) := by
  unfold val_main_v19 val_main_v18
  refine SortRank.argsort_argsort (R := 32) (n := 8732) (by decide) (comparator_f32_i32_d1 (F := Ideal)) comparator_i32_i32_d1
    (fun _ _ => rfl) (val_main_v17 (F := Ideal) x0 x2) (val_main_call1_v0 (F := Ideal)) (fun _ _ => rfl) r
    (fun q => ¬ Spec.pos (x2 (ix2 r q)) = 1#1) (fun a b => ?_) p hp
  obtain ⟨Ma, ha⟩ := hM a
  obtain ⟨Mb, hb⟩ := hM b
  rw [comparator_at]
  refine Eq.trans ?_ (cmp_class (fun q => ¬ Spec.pos (x2 (ix2 r q)) = 1#1) a b)
  have ea := v17_at x0 x2 r a Ma ha
  have eb := v17_at x0 x2 r b Mb hb
  refine congrArg (· == 1#1) (congrArg₂ (Ideal.cmp .olt) (ea.trans ?_) (eb.trans ?_))
  · by_cases h : Spec.pos (x2 (ix2 r a)) = 1#1 <;> simp [h]
  · by_cases h : Spec.pos (x2 (ix2 r b)) = 1#1 <;> simp [h]

end Cert.ReferenceIdeal.Hand
-- ==== Proof.RefLoss.lean ====
module

public import proofs.«01_k».proof.Proof.RefScore
public import Idealize.ShloMosaic.Lib.ReduceAll

@[expose] public section

set_option maxRecDepth 16384

noncomputable section

namespace Cert.ReferenceIdeal.Hand

open Cert.ReferenceIdeal Cert.ReferenceIdeal.Gen Cert.ReferenceIdeal.Read Idealize.ShloMosaic

variable (x0 : S32x8732x81.Idx → EReal) (x1 x3 : S32x8732x4.Idx → EReal) (x2 : S32x8732.Idx → BitVec 32)

/-- The bit pattern of positive infinity. -/
theorem bits_inf : Ideal.ofBits .f32 0x7F800000#32 = ⊤ := by
  simp [Ideal.ofBits, Ideal.ieee]

/-- A real number lies below positive infinity in absolute value. -/
theorem abs_lt_top (M : ℝ) : max (M : EReal) (-(M : EReal)) < ⊤ :=
  max_lt (EReal.coe_lt_top M) (EReal.coe_neg M ▸ EReal.coe_lt_top (-M))

/-- The stabiliser of the logarithm of a sum of exponentials is the row's maximum. -/
theorem v34_at (r : Fin 32) (p : Fin 8732) (M : ℝ) (hM : Spec.top (scores x0 r p) = M) :
    val_main_v34 (F := Ideal) x0 (ix2 r p) = Spec.top (scores x0 r p) := by
  have h30 : val_main_v30 (F := Ideal) x0 (ix2 r p) = Spec.top (scores x0 r p) := by
    unfold val_main_v30
    exact max_row x0 (val_main_cst_6 (F := Ideal)) (fun _ => rfl) r p
  rw [val_main_v34_apply, val_main_v33_apply, val_main_v31_apply, val_main_v32_apply, val_main_cst_7_apply, h30, hM]
  have hc : FloatOps.cmpf (F := Ideal) (φ := .f32) .olt (FloatOps.hostAbsf (F := Ideal) (φ := .f32) (M : EReal))
      (FloatOps.ofBits (F := Ideal) .f32 0x7F800000#32) = 1#1 := by
    show BitVec.ofBool (decide (max (M : EReal) (-(M : EReal)) < Ideal.ofBits .f32 0x7F800000#32)) = 1#1
    rw [bits_inf, decide_eq_true (abs_lt_top M)]
    rfl
  rw [hc]
  rfl

/-- The logarithm of the sum of the exponentials. -/
theorem v41_at (r : Fin 32) (p : Fin 8732) (M : ℝ) (hM : Spec.top (scores x0 r p) = M) :
    val_main_v41 (F := Ideal) x0 (ix2 r p) = Spec.lse (scores x0 r p) := by
  have h39 : val_main_v39 (F := Ideal) x0 (ix2 r p) = ∑ k, Ideal.exp (scores x0 r p k - Spec.top (scores x0 r p)) := by
    rw [val_main_v39_apply, val_main_cst_9_apply]
    show Ideal.ofBits .f32 0x00000000#32 + _ = _
    rw [Ideal.ofBits_zero_f32, zero_add]
    refine Finset.sum_congr rfl fun k _ => ?_
    rw [at3 (idx_main_v39 (ix2 r p) k) r p k rfl rfl rfl, val_main_v38_apply, val_main_v37_apply, val_main_v36_apply,
      val_main_v35_apply, at2 (idx_main_v35 _) r p rfl rfl, v34_at x0 r p M hM]
    rfl
  rw [val_main_v41_apply, val_main_v40_apply, h39, v34_at x0 r p M hM]
  exact add_comm _ _

/-- The score at the label is the one score whose class is the label. -/
theorem atLabel_eq (x : Fin 81 → EReal) (lab : BitVec 32) (h0 : 0 ≤ lab.toInt) (h1 : lab.toInt < 81) (k : Fin 81)
    (hk : k.val = lab.toInt.toNat) : Spec.atLabel x lab = x k := by
  have hl : lab.toInt = lab.toNat := by
    rw [BitVec.toInt_eq_toNat_cond] at h0 ⊢
    split at h0 <;> omega
  have hk' : k.val = lab.toNat := by omega
  have e : ∀ j : Fin 81, IntOp.cmpi .eq (BitVec.ofNat 32 j.val) lab = 1#1 ↔ j = k := by
    intro j
    rw [IntOp.cmpi_eq]
    constructor
    · intro h
      have := congrArg BitVec.toNat h
      rw [BitVec.toNat_ofNat, Nat.mod_eq_of_lt (by omega)] at this
      exact Fin.ext (this.trans hk'.symm)
    · rintro rfl
      refine BitVec.eq_of_toNat_eq ?_
      rw [BitVec.toNat_ofNat, Nat.mod_eq_of_lt (by omega)]
      exact hk'
  unfold Spec.atLabel
  rw [Finset.sum_eq_single k]
  · exact if_pos ((e k).2 rfl)
  · intro j _ hj
    exact if_neg fun h => hj ((e j).1 h)
  · intro h
    exact absurd (Finset.mem_univ k) h

/-- The index a prior's label is read at by the gather. -/
abbrev labelIdx (r : Fin 32) (p : Fin 8732) : S32x8732x1x1.Idx := fun a => match a with
  | ⟨0, _⟩ => r
  | ⟨1, _⟩ => p
  | ⟨2, _⟩ => ⟨0, Nat.one_pos⟩
  | ⟨3, _⟩ => ⟨0, Nat.one_pos⟩

/-- The gather along the classes: each prior's score at its start index, kept within the classes. -/
theorem gather_row {α : Type} (x : S32x8732x81.Idx → α) (idx : S32x8732x1x1.Idx → BitVec 32) (r : Fin 32) (p : Fin 8732) :
    Host.gather gather_S32x8732x81_S32x8732x1x1_S32x8732x1_n_2_01_01_2_3_111 x idx (ix3 r p ⟨0, Nat.one_pos⟩)
      = x (ix3 r p ⟨min (idx (labelIdx r p)).toInt.toNat 80, by omega⟩) := by
  unfold Host.gather
  refine congrArg x (at3 _ r p _ ?_ ?_ ?_)
  · show GatherDims.start _ _ _ _ + GatherDims.batchCoord _ _ _ + GatherDims.offCoord _ _ _ = _
    rw [GatherDims.start_batching _ _ _ _ (show (0 : Fin 3) ∈ [0, 1] by decide),
      GatherDims.offCoord_eq_zero _ _ _ (fun h => ((GatherDims.mem_sKept _ _).mp h).2 (show (0 : Fin 3) ∈ [0, 1] by decide))]
    simp only [Nat.zero_add, Nat.add_zero]
    unfold GatherDims.batchCoord
    exact (dif_pos (show (0 : Fin 3) ∈ [0, 1] by decide)).trans rfl
  · show GatherDims.start _ _ _ _ + GatherDims.batchCoord _ _ _ + GatherDims.offCoord _ _ _ = _
    rw [GatherDims.start_batching _ _ _ _ (show (1 : Fin 3) ∈ [0, 1] by decide),
      GatherDims.offCoord_eq_zero _ _ _ (fun h => ((GatherDims.mem_sKept _ _).mp h).2 (show (1 : Fin 3) ∈ [0, 1] by decide))]
    simp only [Nat.zero_add, Nat.add_zero]
    unfold GatherDims.batchCoord
    exact (dif_pos (show (1 : Fin 3) ∈ [0, 1] by decide)).trans rfl
  · show GatherDims.start _ _ _ _ + GatherDims.batchCoord _ _ _ + GatherDims.offCoord _ _ _ = _
    rw [GatherDims.batchCoord_eq_zero _ _ _ (show (2 : Fin 3) ∉ [0, 1] by decide),
      GatherDims.offCoord_eq_zero _ _ _ (fun h => ((GatherDims.mem_sKept _ _).mp h).1 (show (2 : Fin 3) ∈ [2] by decide))]
    simp only [Nat.add_zero]
    unfold GatherDims.start
    refine (dif_pos (show (2 : Fin 3) ∈ [2] by decide)).trans ?_
    refine congrArg (fun n => min n 80) (congrArg (fun i => (idx i).toInt.toNat) ?_)
    funext b
    refine Fin.ext ?_
    match b with
    | ⟨0, _⟩ => rfl
    | ⟨1, _⟩ => rfl
    | ⟨2, _⟩ => rfl
    | ⟨3, _⟩ => rfl

/-- A label that is not negative is its own start index. -/
theorem call4_v5_at (hL : ∀ r p, 0 ≤ (x2 (ix2 r p)).toInt) (i : S32x8732x1x1.Idx) :
    val_main_call4_v5 (F := Ideal) x2 i = x2 (ix2 (i 0) (i 1)) := by
  have b0 : (i 0).val < 32 := (i 0).isLt
  have b1 : (i 1).val < 8732 := (i 1).isLt
  have b2 : (i 2).val < 1 := (i 2).isLt
  have b3 : (i 3).val < 1 := (i 3).isLt
  have h42 : val_main_v42 (F := Ideal) x2 (idx_main_call4_v5 i) = x2 (ix2 (i 0) (i 1)) := by
    rw [val_main_v42_apply]
    refine congrArg x2 (at2 _ (i 0) (i 1) ?_ ?_)
    · show ((((i 0).val * 8732 + (i 1).val) * 1 + (i 2).val) * 1 + (i 3).val) / 8732 = (i 0).val
      omega
    · show ((((i 0).val * 8732 + (i 1).val) * 1 + (i 2).val) * 1 + (i 3).val) / 1 % 8732 = (i 1).val
      omega
  have hn : ¬ IntOp.cmpi .slt (x2 (ix2 (i 0) (i 1))) 0#32 = 1#1 := by
    rw [IntOp.cmpi_slt]
    exact not_lt.2 (hL (i 0) (i 1))
  rw [val_main_call4_v5_apply, val_main_call4_v4_apply, val_main_call4_v1_apply, val_main_call4_v0_apply,
    val_main_call4_c_apply, h42]
  exact if_neg hn

/-- The score at the label. -/
theorem v44_at (hL : ∀ r p, 0 ≤ (x2 (ix2 r p)).toInt ∧ (x2 (ix2 r p)).toInt < 81) (r : Fin 32) (p : Fin 8732) :
    val_main_v44 (F := Ideal) x0 x2 (ix2 r p) = Spec.atLabel (scores x0 r p) (x2 (ix2 r p)) := by
  have h5 := call4_v5_at x2 (fun r p => (hL r p).1)
  have h12 : val_main_call4_v12 (F := Ideal) x2 (ix3 r p ⟨0, Nat.one_pos⟩) = 1#1 := by
    unfold val_main_call4_v12
    refine Host.reduce_andi_one _ _ _ _ _ rfl fun i => ?_
    rw [val_main_call4_v11_apply, val_main_call4_v7_apply, val_main_call4_v10_apply, h5, val_main_call4_v6_apply,
      val_main_call4_c_2_apply, val_main_call4_v9_apply, val_main_call4_v8_apply, val_main_call4_c_1_apply, IntOp.andi_eq_one]
    refine ⟨IntOp.cmpi_sge.2 (hL _ _).1, IntOp.cmpi_sle.2 ?_⟩
    have := (hL (i 0) (i 1)).2
    show _ ≤ (80 : Int)
    omega
  have h13 : val_main_call4_v13 (F := Ideal) x0 x2 (ix3 r p ⟨0, Nat.one_pos⟩) = Spec.atLabel (scores x0 r p) (x2 (ix2 r p)) := by
    unfold val_main_call4_v13
    refine (gather_row x0 (val_main_call4_v5 (F := Ideal) x2) r p).trans (atLabel_eq (scores x0 r p) _ (hL r p).1 (hL r p).2 _ ?_).symm
    have h0 := (hL r p).1
    have h1 := (hL r p).2
    refine (congrArg (fun w : BitVec 32 => min w.toInt.toNat 80) (h5 (labelIdx r p))).trans ?_
    show min (x2 (ix2 r p)).toInt.toNat 80 = _
    omega
  have e : idx_main_v44 (ix2 r p) = ix3 r p ⟨0, Nat.one_pos⟩ := by
    have b0 := r.isLt
    have b1 := p.isLt
    refine at3 _ r p _ ?_ ?_ rfl
    · show (r.val * 8732 + p.val) / 8732 = r.val
      omega
    · show (r.val * 8732 + p.val) / 1 % 8732 = p.val
      omega
  rw [val_main_v44_apply, e, val_main_v43_apply, h12, h13]
  rfl

/-- A choice by a comparison with one. -/
theorem select_lt_one (a u v : EReal) :
    Scalar.select (FloatOps.cmpf (F := Ideal) (φ := .f32) .olt a (FloatOps.ofBits (F := Ideal) .f32 0x3F800000#32)) u v
      = if a < 1 then u else v := by
  have e : FloatOps.ofBits (F := Ideal) .f32 0x3F800000#32 = 1 := Ideal.ofBits_one_f32
  rw [e]
  by_cases h : a < 1
  · rw [if_pos h]
    refine if_pos ?_
    show BitVec.ofBool (decide (a < 1)) = 1
    rw [decide_eq_true h]
    rfl
  · rw [if_neg h]
    refine if_neg ?_
    show ¬ BitVec.ofBool (decide (a < 1)) = 1
    rw [decide_eq_false h]
    decide

/-- The smooth absolute difference of a positive prior's coordinate. -/
theorem v59_at (r : Fin 32) (p : Fin 8732) (k : Fin 4) :
    val_main_v59 (F := Ideal) x1 x2 x3 (ix3 r p k)
      = Scalar.select (Spec.pos (x2 (ix2 r p))) (Spec.huber (x1 (ix3 r p k)) (x3 (ix3 r p k))) 0 := by
  have h57 : val_main_v57 (F := Ideal) x1 x3 (ix3 r p k) = Spec.huber (x1 (ix3 r p k)) (x3 (ix3 r p k)) := by
    rw [val_main_v57_apply, val_main_v51_apply, val_main_v54_apply, val_main_v53_apply, val_main_v56_apply, val_main_v49_apply,
      val_main_v50_apply, val_main_v52_apply, val_main_v55_apply, val_main_cst_12_apply, val_main_cst_13_apply,
      val_main_cst_14_apply, val_main_v48_apply]
    exact select_lt_one _ _ _
  rw [val_main_v59_apply, h57, val_main_call7_v1_apply, val_main_v58_apply, at2 (idx_main_v58 _) r p rfl rfl, v12_at,
    val_main_call7_v2_apply, val_main_call7_v0_apply, val_main_cst_15_apply]
  show Scalar.select _ _ (Ideal.ofBits .f32 0x00000000#32) = _
  rw [Ideal.ofBits_zero_f32]

end Cert.ReferenceIdeal.Hand
-- ==== Proof.RefTotal.lean ====
module

public import proofs.«01_k».proof.Proof.RefLoss

@[expose] public section

set_option maxRecDepth 16384

noncomputable section

namespace Cert.ReferenceIdeal.Hand

open Cert.ReferenceIdeal Cert.ReferenceIdeal.Gen Cert.ReferenceIdeal.Read Idealize.ShloMosaic

variable (x0 : S32x8732x81.Idx → EReal) (x1 x3 : S32x8732x4.Idx → EReal) (x2 : S32x8732.Idx → BitVec 32)

/-- The count of positives as a word. -/
abbrev positives : BitVec 32 := ∑ r : Fin 32, ∑ p : Fin 8732, (Spec.pos (x2 (ix2 r p))).setWidth 32

/-- The integer count of positives is the sum of the positive flags. -/
theorem v21_at (i : S_.Idx) : val_main_v21 (F := Ideal) x2 i = positives x2 := by
  unfold val_main_v21
  have e := Host.reduce_eq_fold IntOp.addi (val_main_v20 (F := Ideal) x2) (val_main_c_4 (F := Ideal)) reducesTo_S32x8732_S_d0_1 h_S_ i
  refine e.trans ?_
  rw [Finset.filter_true_of_mem fun j _ => funext fun a => a.elim0]
  refine Eq.trans (b := ∑ j : S32x8732.Idx, val_main_v20 (F := Ideal) x2 j) rfl ?_
  refine (sum_idx2 (n0 := 32) (n1 := 8732) (val_main_v20 (F := Ideal) x2)).trans ?_
  refine Finset.sum_congr rfl fun r _ => Finset.sum_congr rfl fun p _ => ?_
  rw [val_main_v20_apply, v12_at]

/-- The count of positives as a number. -/
abbrev positivesReal : EReal := (((positives x2).toInt : ℝ) : EReal)

theorem v29_at (i : S_.Idx) : val_main_v29 (F := Ideal) x2 i = positivesReal x2 := by
  rw [val_main_v29_apply, v21_at]
  rfl

/-- The bit pattern of three. -/
theorem bits_three : Ideal.ofBits .f32 0x40400000#32 = ((3 : ℝ) : EReal) := by
  simp [Ideal.ofBits, Ideal.ieee, -EReal.coe_mul]
  norm_num

/-- The quota of negatives: three times an integer is its own floor. -/
theorem v25_at (i : S_.Idx) : val_main_v25 (F := Ideal) x2 i = Spec.quota (positivesReal x2) := by
  rw [val_main_v25_apply, val_main_v24_apply, val_main_v23_apply, val_main_v22_apply, val_main_cst_5_apply, v21_at]
  show Ideal.fptosi 32 (Ideal.liftRound Int.floor (Ideal.ofBits .f32 0x40400000#32 * positivesReal x2)) = _
  unfold Spec.quota
  refine congrArg (Ideal.fptosi 32) ?_
  rw [bits_three]
  have e : ((3 : ℝ) : EReal) * positivesReal x2 = (((3 * (positives x2).toInt : ℤ) : ℝ) : EReal) := by
    rw [← EReal.coe_mul]
    push_cast
    rfl
  rw [e]
  show (((⌊((3 * (positives x2).toInt : ℤ) : ℝ)⌋ : ℤ) : ℝ) : EReal) = _
  rw [Int.floor_intCast]

/-- What one prior adds to the reference's confidence loss. -/
theorem v46_at (hM : ∀ r p, ∃ M : ℝ, Spec.top (scores x0 r p) = M)
    (hL : ∀ r p, 0 ≤ (x2 (ix2 r p)).toInt ∧ (x2 (ix2 r p)).toInt < 81) (r : Fin 32) (p : Fin 8732) :
    val_main_v46 (F := Ideal) x0 x2 (ix2 r p) = Spec.confTerm (scores x0 r p) (x2 (ix2 r p))
      (BitVec.ofNat 32 (Nat.count (fun q => ∃ h : q < 8732, ¬ Spec.pos (x2 (ix2 r ⟨q, h⟩)) = 1#1) p.val)) (positivesReal x2) := by
  obtain ⟨M, hMp⟩ := hM r p
  have h28 : val_main_v28 (F := Ideal) x0 x2 (ix2 r p) = IntOp.ori (Spec.pos (x2 (ix2 r p)))
      (IntOp.cmpi .slt (BitVec.ofNat 32 (Nat.count (fun q => ∃ h : q < 8732, ¬ Spec.pos (x2 (ix2 r ⟨q, h⟩)) = 1#1) p.val))
        (Spec.quota (positivesReal x2))) := by
    rw [val_main_v28_apply, v12_at, val_main_v27_apply, val_main_v26_apply, v25_at]
    by_cases hp : Spec.pos (x2 (ix2 r p)) = 1#1
    · rw [hp]
      exact (IntOp.ori_eq_one.2 (Or.inl rfl)).trans (IntOp.ori_eq_one.2 (Or.inl rfl)).symm
    · rw [v19_at x0 x2 r (hM r) p hp]
  rw [val_main_v46_apply, h28, val_main_v45_apply, v41_at x0 r p M hMp, v44_at x0 x2 hL, val_main_call5_v1_apply,
    val_main_call5_v0_apply, val_main_cst_10_apply]
  show Scalar.select _ _ (Ideal.ofBits .f32 0x00000000#32) = _
  rw [Ideal.ofBits_zero_f32]
  rfl

/-- The reference's result: both losses over the count of positives. -/
theorem v62_at (hM : ∀ r p, ∃ M : ℝ, Spec.top (scores x0 r p) = M)
    (hL : ∀ r p, 0 ≤ (x2 (ix2 r p)).toInt ∧ (x2 (ix2 r p)).toInt < 81) (i : S_.Idx) :
    val_main_v62 (F := Ideal) x0 x1 x2 x3 i = Ideal.div
      (∑ r : Fin 32, ∑ p : Fin 8732, Spec.confTerm (scores x0 r p) (x2 (ix2 r p))
          (BitVec.ofNat 32 (Nat.count (fun q => ∃ h : q < 8732, ¬ Spec.pos (x2 (ix2 r ⟨q, h⟩)) = 1#1) p.val)) (positivesReal x2)
        + ∑ r : Fin 32, ∑ p : Fin 8732, Spec.locTerm (fun k => x1 (ix3 r p k)) (fun k => x3 (ix3 r p k)) (x2 (ix2 r p)))
      (positivesReal x2) := by
  have h47 : val_main_v47 (F := Ideal) x0 x2 i = ∑ r : Fin 32, ∑ p : Fin 8732, Spec.confTerm (scores x0 r p) (x2 (ix2 r p))
      (BitVec.ofNat 32 (Nat.count (fun q => ∃ h : q < 8732, ¬ Spec.pos (x2 (ix2 r ⟨q, h⟩)) = 1#1) p.val)) (positivesReal x2) := by
    rw [val_main_v47_apply, val_main_cst_11_apply]
    show Ideal.ofBits .f32 0x00000000#32 + _ = _
    rw [Ideal.ofBits_zero_f32, zero_add]
    refine (sum_idx2 (n0 := 32) (n1 := 8732) (val_main_v46 (F := Ideal) x0 x2)).trans ?_
    exact Finset.sum_congr rfl fun r _ => Finset.sum_congr rfl fun p _ => v46_at x0 x2 hM hL r p
  have h60 : val_main_v60 (F := Ideal) x1 x2 x3 i
      = ∑ r : Fin 32, ∑ p : Fin 8732, Spec.locTerm (fun k => x1 (ix3 r p k)) (fun k => x3 (ix3 r p k)) (x2 (ix2 r p)) := by
    rw [val_main_v60_apply, val_main_cst_16_apply]
    show Ideal.ofBits .f32 0x00000000#32 + _ = _
    rw [Ideal.ofBits_zero_f32, zero_add]
    refine (sum_idx3 (n0 := 32) (n1 := 8732) (n2 := 4) (val_main_v59 (F := Ideal) x1 x2 x3)).trans ?_
    exact Finset.sum_congr rfl fun r _ => Finset.sum_congr rfl fun p _ => Finset.sum_congr rfl fun k _ => v59_at x1 x3 x2 r p k
  rw [show val_main_v62 (F := Ideal) x0 x1 x2 x3 i = Ideal.div (val_main_v47 (F := Ideal) x0 x2 i + val_main_v60 (F := Ideal) x1 x2 x3 i)
    (val_main_v29 (F := Ideal) x2 i) from rfl, h47, h60, v29_at]

end Cert.ReferenceIdeal.Hand
-- ==== Proof.Equation.lean ====
module

public import proofs.«01_k».proof.Proof.KernelCount
public import proofs.«01_k».proof.Proof.RefTotal
public import proofs.«01_k».proof.Pre_rows_finite_labels_in_range

@[expose] public section

set_option maxRecDepth 16384

noncomputable section

namespace Cert.KernelIdeal.Hand

open Cert.KernelIdeal Cert.KernelIdeal.Gen Idealize.ShloMosaic Idealize.ShloMosaic.TcCoe Idealize.SL.Sem

variable (m : (ℓ : Loc nD τ sig) → Buf (Elt Ideal) ℓ)

/-- A comparison below positive infinity that is one. -/
theorem lt_of_cmpf (a : EReal) (h : FloatOps.cmpf (F := Ideal) (φ := .f32) .olt (FloatOps.hostAbsf (F := Ideal) (φ := .f32) a)
    (FloatOps.ofBits (F := Ideal) .f32 0x7F800000#32) = 1#1) : max a (-a) < ⊤ := by
  have e : FloatOps.ofBits (F := Ideal) .f32 0x7F800000#32 = ⊤ := Cert.ReferenceIdeal.Hand.bits_inf
  rw [e] at h
  by_contra hn
  have hz : FloatOps.cmpf (F := Ideal) (φ := .f32) .olt (FloatOps.hostAbsf (F := Ideal) (φ := .f32) a) ⊤ = 0#1 := by
    show BitVec.ofBool (decide (max a (-a) < ⊤)) = 0#1
    rw [decide_eq_false hn]
    rfl
  rw [hz] at h
  exact absurd h (by decide)

/-- The precondition at one prior, its three comparisons side by side. -/
theorem pre_at {F : FTy → Type} [FloatOps F] [Cert.Pre_rows_finite_labels_in_range.Facts] (x0 : FVec F S32x8732x81 .f32)
    (x1 : FVec F S32x8732x4 .f32) (x2 : IVec S32x8732 32) (x3 : FVec F S32x8732x4 .f32) (j : S32x8732.Idx) :
    Cert.Pre_rows_finite_labels_in_range.fn (F := F) x0 x1 x2 x3 j
      = IntOp.andi (FloatOps.cmpf .olt (FloatOps.hostAbsf (Host.reduce FloatOps.maximumf x0 (constant (F := F) S_ .f32 0xFF800000#32)
          Cert.Pre_rows_finite_labels_in_range.Facts.reducesTo_S32x8732x81_S32x8732_d2
          Cert.Pre_rows_finite_labels_in_range.Facts.h_S_ j)) (FloatOps.ofBits (F := F) .f32 0x7F800000#32))
        (IntOp.andi (IntOp.cmpi .sge (x2 j) 0#32) (IntOp.cmpi .slt (x2 j) 81#32)) := by
  unfold Cert.Pre_rows_finite_labels_in_range.fn
  dsimp only
  generalize Host.reduce FloatOps.maximumf x0 (constant (F := F) S_ .f32 0xFF800000#32) _ _ = y
  rfl

/-- What the precondition says of every prior: its largest class score is a real number and its label is a class. -/
theorem of_pre [Cert.Pre_rows_finite_labels_in_range.Facts] (x0 : S32x8732x81.Idx → EReal) (x1 : S32x8732x4.Idx → EReal)
    (x2 : S32x8732.Idx → BitVec 32) (x3 : S32x8732x4.Idx → EReal)
    (h : Cert.Pre_rows_finite_labels_in_range.fn (F := Ideal) x0 x1 x2 x3 = fun _ => 1#1) (r : Fin 32) (p : Fin 8732) :
    (∃ M : ℝ, Spec.top (fun k => x0 (ix3 r p k)) = M) ∧ 0 ≤ (x2 (ix2 r p)).toInt ∧ (x2 (ix2 r p)).toInt < 81 := by
  have e := (pre_at (F := Ideal) x0 x1 x2 x3 (ix2 r p)).symm.trans (congrFun h (ix2 r p))
  obtain ⟨ha, hb⟩ := IntOp.andi_eq_one.1 e
  obtain ⟨hb, hc⟩ := IntOp.andi_eq_one.1 hb
  refine ⟨?_, ?_, ?_⟩
  · have ht := Cert.ReferenceIdeal.Hand.max_row x0 (constant (F := Ideal) S_ .f32 0xFF800000#32) (fun _ => rfl) r p
    rw [ht] at ha
    exact Spec.real_of_abs_lt _ (lt_of_cmpf _ ha)
  · exact IntOp.cmpi_sge.1 hb
  · exact IntOp.cmpi_slt.1 hc

/-- The kernel's result is the reference's, of the same arguments. -/
theorem result_reference [Cert.Pre_rows_finite_labels_in_range.Facts] (c : Dev nD)
    (h : Cert.Pre_rows_finite_labels_in_range.fn (F := Ideal) (conf m c) (pred m c) (labels m c) (goal m c) = fun _ => 1#1) (i : S_.Idx) :
    outAt m c lastPoint = Cert.ReferenceIdeal.Read.val_main_v62 (F := Ideal) (conf m c) (pred m c) (labels m c) (goal m c) i := by
  have hp := of_pre _ _ _ _ h
  rw [Cert.ReferenceIdeal.Hand.v62_at (conf m c) (pred m c) (goal m c) (labels m c) (fun r p => (hp r p).1) (fun r p => (hp r p).2) i,
    outAt_last]
  have hc : count (labels m c) = Cert.ReferenceIdeal.Hand.positivesReal (labels m c) := count_sum (labels m c)
  refine congrArg₂ Ideal.div (congrArg₂ (· + ·) ?_ ?_) hc
  · refine (sum_flat fun r p => Spec.confTerm (fun k => conf m c (ix3 r p k)) (labels m c (ix2 r p)) (hostRank (labels m c) (ix2 r p))
      (count (labels m c))).trans ?_
    refine Finset.sum_congr rfl fun r _ => Finset.sum_congr rfl fun p _ => ?_
    rw [hostRank_at, hc]
  · exact sum_flat fun r p => Spec.locTerm (fun k => pred m c (ix3 r p k)) (fun k => goal m c (ix3 r p k)) (labels m c (ix2 r p))

variable (ρ : Dev nD → PrngReg)

/-- The kernel's run with its result: it ends holding both losses over the count of positives, its arguments unchanged. -/
theorem value_holds : θ_run defs (onTc (τ := τ) (main (F := Ideal))) ⟨m, fun _ => 0, ρ⟩ (fun r => ∀ c : Dev nD,
      r.2.mem ((c.tc : Thread nD τ).loc main_v17) = (fun _ => outAt m c lastPoint)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1.1 c).2 main_v17 (by decide)).trans (result_eq m c), h.2.1 c⟩)
    (θ_run_and (run_main m ρ) (frame_holds m ρ))

end Cert.KernelIdeal.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.KernelIdealRun
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The side conditions of the precondition's operations. -/
theorem pre_facts : Cert.Pre_rows_finite_labels_in_range.Facts where
  reducesTo_S32x8732x81_S32x8732_d2 := Cert.ReferenceIdeal.Gen.facts₀.reducesTo_S32x8732x81_S32x8732_d2
  h_S_ := Cert.ReferenceIdeal.Gen.facts₀.h_S_
  bcast_S_S32x8732 := Cert.ReferenceIdeal.Gen.facts₀.bcast_S_S32x8732

/-- The reference's frame: it terminates, its arguments end unchanged, its counters at zero. -/
theorem reference_frame : Cert.quiescent_ReferenceIdeal (hReferenceIdeal := Cert.ReferenceIdeal.Gen.facts) :=
  fun m ρ _ => (θ_run Cert.ReferenceIdeal.defs _ _).mono (fun r h => ⟨fun c => (h c).2, sem_eq_zero_of_no_sems (by decide) r.2⟩)
    (Cert.ReferenceIdeal.Value.run m ρ)

/-- The kernel and the reference, run from equal arguments that satisfy the precondition, end with equal results. -/
theorem algebraic_holds : Cert.algebraic_KernelIdeal_ReferenceIdeal_pre_rows_finite_labels_in_range
    (hKernelIdeal := Cert.KernelIdeal.Gen.facts) (hReferenceIdeal := Cert.ReferenceIdeal.Gen.facts)
    (hPre_rows_finite_labels_in_range := pre_facts) := by
  intro m g m' g' hpre hagree
  refine ⟨fun c => fun _ => Cert.KernelIdeal.Hand.outAt m c Cert.KernelIdeal.Hand.lastPoint,
    Cert.KernelIdeal.Hand.value_holds m g, ?_⟩
  refine (θ_run Cert.ReferenceIdeal.defs _ _).mono (fun r h c => ⟨(h c).1.trans ?_, (h c).2⟩) (Cert.ReferenceIdeal.Value.run m' g')
  obtain ⟨h0, h1, h2, h3⟩ := hagree c
  rw [Cert.ReferenceIdeal.Read.val_main_v62_eq, h0, h1, h2, h3]
  exact funext fun i => (@Cert.KernelIdeal.Hand.result_reference m pre_facts c (hpre c) i).symm

/-- Every claim: the frames, the idealization, and the equality of the results. -/
theorem claim : Cert.Claim :=
  ⟨Cert.Kernel.Gen.facts, Cert.KernelIdeal.Gen.facts, Cert.ReferenceIdeal.Gen.facts, pre_facts,
    fun m ρ _ => Cert.Kernel.Hand.frame_holds m ρ, fun m ρ _ => Cert.KernelIdeal.Hand.frame_holds m ρ,
    fun m ρ _ => Cert.KernelIdeal.Hand.frame_holds m ρ, reference_frame, fun m ρ _ => reference_frame m ρ trivial,
    trivial, algebraic_holds⟩

end Cert.Proof

end
